-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S256x1024 : Shape := ⟨2, ![256, 1024]⟩
abbrev S256x8 : Shape := ⟨2, ![256, 8]⟩
abbrev S8x1024x4096 : Shape := ⟨3, ![8, 1024, 4096]⟩
abbrev S8x2048x1024 : Shape := ⟨3, ![8, 2048, 1024]⟩
abbrev S8x8x4096 : Shape := ⟨3, ![8, 8, 4096]⟩
abbrev S8x16x1024 : Shape := ⟨3, ![8, 16, 1024]⟩
abbrev S8 : Shape := ⟨1, ![8]⟩
abbrev S_ : Shape := ⟨0, ![]⟩

class Facts : Prop where
  bcast_S_S256x8 : S_.BroadcastsInDim S256x8 (![] : Fin 0 → Fin S256x8.rank)

variable [Facts]

def fn {F : FTy → Type} [FloatOps F] (main_arg0 : FVec F S256x1024 .f32) (main_arg1 : FVec F S256x8 .f32) (main_arg2 : IVec S8x1024x4096 8) (main_arg3 : IVec S8x2048x1024 8) (main_arg4 : FVec F S8x8x4096 .f32) (main_arg5 : FVec F S8x16x1024 .f32) (main_arg6 : FVec F S8 .f32) (main_arg7 : FVec F S8 .f32) : IVec S256x8 1 :=
  let main_v0 : FVec F S256x8 .f32 := Host.absf main_arg1
  let main_cst : FVec F S_ .f32 := constant S_ .f32 0x7F800000#32
  let main_v1 : FVec F S256x8 .f32 := broadcastInDim S256x8 ![] bcast_S_S256x8 main_cst
  let main_v2 : IVec S256x8 1 := cmpf .olt main_v0 main_v1
  main_v2
-- ==== Kernel.lean ====
abbrev S256x1024 : Shape := ⟨2, ![256, 1024]⟩
abbrev S256x8 : Shape := ⟨2, ![256, 8]⟩
abbrev S8x1024x4096 : Shape := ⟨3, ![8, 1024, 4096]⟩
abbrev S8x2048x1024 : Shape := ⟨3, ![8, 2048, 1024]⟩
abbrev S8x8x4096 : Shape := ⟨3, ![8, 8, 4096]⟩
abbrev S8x16x1024 : Shape := ⟨3, ![8, 16, 1024]⟩
abbrev S8 : Shape := ⟨1, ![8]⟩
abbrev S1x8x4096 : Shape := ⟨3, ![1, 8, 4096]⟩
abbrev S1x16x1024 : Shape := ⟨3, ![1, 16, 1024]⟩
abbrev S2x1024x4096 : Shape := ⟨3, ![2, 1024, 4096]⟩
abbrev S2x2048x1024 : Shape := ⟨3, ![2, 2048, 1024]⟩
abbrev S1024x2048 : Shape := ⟨2, ![1024, 2048]⟩
abbrev S2048x1024 : Shape := ⟨2, ![2048, 1024]⟩
abbrev S2 : Shape := ⟨1, ![2]⟩
abbrev S1 : Shape := ⟨1, ![1]⟩
abbrev S_ : Shape := ⟨0, ![]⟩
abbrev S1x1024x4096 : Shape := ⟨3, ![1, 1024, 4096]⟩
abbrev S1024x4096 : Shape := ⟨2, ![1024, 4096]⟩
abbrev S1x2048x1024 : Shape := ⟨3, ![1, 2048, 1024]⟩
abbrev S256 : Shape := ⟨1, ![256]⟩
abbrev S256x1 : Shape := ⟨2, ![256, 1]⟩
abbrev S1x128x2048 : Shape := ⟨3, ![1, 128, 2048]⟩
abbrev S128x2048 : Shape := ⟨2, ![128, 2048]⟩
abbrev S1x1x2048 : Shape := ⟨3, ![1, 1, 2048]⟩
abbrev S2048 : Shape := ⟨1, ![2048]⟩
abbrev S1x2048 : Shape := ⟨2, ![1, 2048]⟩
abbrev S1x128x1024 : Shape := ⟨3, ![1, 128, 1024]⟩
abbrev S128x1024 : Shape := ⟨2, ![128, 1024]⟩
abbrev S1x1x1024 : Shape := ⟨3, ![1, 1, 1024]⟩
abbrev S1024 : Shape := ⟨1, ![1024]⟩
abbrev S1x1024 : Shape := ⟨2, ![1, 1024]⟩
abbrev S256x2048 : Shape := ⟨2, ![256, 2048]⟩

abbrev nBuf : Space → Nat
  | .hbm => 9
  | .vmem => 12
  | .smem => 2
  | _ => 0

abbrev bufTy : (tb : Table) → Fin (tcTables nBuf tb) → BufTy
  | .hbm, ⟨0, _⟩ => ⟨S256x1024, .f32⟩
  | .hbm, ⟨1, _⟩ => ⟨S256x8, .f32⟩
  | .hbm, ⟨2, _⟩ => ⟨S8x1024x4096, .i8⟩
  | .hbm, ⟨3, _⟩ => ⟨S8x2048x1024, .i8⟩
  | .hbm, ⟨4, _⟩ => ⟨S8x8x4096, .f32⟩
  | .hbm, ⟨5, _⟩ => ⟨S8x16x1024, .f32⟩
  | .hbm, ⟨6, _⟩ => ⟨S8, .f32⟩
  | .hbm, ⟨7, _⟩ => ⟨S8, .f32⟩
  | .hbm, ⟨8, _⟩ => ⟨S256x1024, .f32⟩
  | .local _ .vmem, ⟨0, _⟩ => ⟨S256x1024, .f32⟩
  | .local _ .vmem, ⟨1, _⟩ => ⟨S256x8, .f32⟩
  | .local _ .vmem, ⟨2, _⟩ => ⟨S1x8x4096, .f32⟩
  | .local _ .vmem, ⟨3, _⟩ => ⟨S1x8x4096, .f32⟩
  | .local _ .vmem, ⟨4, _⟩ => ⟨S1x16x1024, .f32⟩
  | .local _ .vmem, ⟨5, _⟩ => ⟨S1x16x1024, .f32⟩
  | .local _ .vmem, ⟨6, _⟩ => ⟨S256x1024, .f32⟩
  | .local _ .vmem, ⟨7, _⟩ => ⟨S2x1024x4096, .i8⟩
  | .local _ .vmem, ⟨8, _⟩ => ⟨S2x2048x1024, .i8⟩
  | .local _ .vmem, ⟨9, _⟩ => ⟨S1024x2048, .f32⟩
  | .local _ .vmem, ⟨10, _⟩ => ⟨S1024x2048, .f32⟩
  | .local _ .vmem, ⟨11, _⟩ => ⟨S2048x1024, .f32⟩
  | .local _ .smem, ⟨0, _⟩ => ⟨S8, .f32⟩
  | .local _ .smem, ⟨1, _⟩ => ⟨S8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c1_i32_1 : BitVec 32 := 1#32
  let v5 : BitVec 32 := Scalar.addi arg0 c1_i32_1
  let c8_i32 : BitVec 32 := 8#32
  let v6 : BitVec 1 := Scalar.cmpi .slt v5 c8_i32
  let v7 : BitVec 32 := Scalar.extui v6
  let c0_i32_2 : BitVec 32 := 0#32
  let v8 : BitVec 1 := Scalar.cmpi .ne v7 c0_i32_2
  v8

def k0_off1 (i : grid0.Coords) : Fin 1 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  ![v1.toNat]
def k0_off2 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_233 : BitVec 32 := 0#32
  let c0_i32_234 : BitVec 32 := 0#32
  ![v1.toNat, 0, 0]
def k0_off3 (i : grid0.Coords) : Fin 3 → Nat :=
  let arg0 : BitVec 32 := BitVec.ofNat 32 (i 0).val
  let c1_i32_232 : BitVec 32 := 1#32
  let v482 : BitVec 32 := Scalar.addi arg0 c1_i32_232
  let c0_i32_235 : BitVec 32 := 0#32
  let c0_i32_236 : BitVec 32 := 0#32
  ![v482.toNat, 0, 0]
def k0_off4 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_238 : BitVec 32 := 0#32
  let c0_i32_239 : BitVec 32 := 0#32
  ![v1.toNat, 0, 0]
def k0_off5 (i : grid0.Coords) : Fin 3 → Nat :=
  let arg0 : BitVec 32 := BitVec.ofNat 32 (i 0).val
  let c1_i32_237 : BitVec 32 := 1#32
  let v489 : BitVec 32 := Scalar.addi arg0 c1_i32_237
  let c0_i32_240 : BitVec 32 := 0#32
  let c0_i32_241 : BitVec 32 := 0#32
  ![v489.toNat, 0, 0]
def k0_off6 (i : grid0.Coords) : Fin 1 → Nat :=
  let arg0 : BitVec 32 := BitVec.ofNat 32 (i 0).val
  let v44 : Index := Scalar.indexCast arg0
  ![v44.toNat]
def k0_off7 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off8 (i : grid0.Coords) : Fin 3 → Nat :=
  let arg0 : BitVec 32 := BitVec.ofNat 32 (i 0).val
  let c2_i32 : BitVec 32 := 2#32
  let v0 : BitVec 32 := Scalar.remsi arg0 c2_i32
  let c0_i32_12 : BitVec 32 := 0#32
  let c0_i32_13 : BitVec 32 := 0#32
  ![v0.toNat, 0, 0]
def k0_off9 (i : grid0.Coords) : Fin 3 → Nat :=
  let arg0 : BitVec 32 := BitVec.ofNat 32 (i 0).val
  let c0_i32_14 : BitVec 32 := 0#32
  let c0_i32_15 : BitVec 32 := 0#32
  ![arg0.toNat, 0, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let c0_i32_16 : BitVec 32 := 0#32
  let c0_i32_17 : BitVec 32 := 0#32
  ![v0.toNat, 0, 0]
def k0_off11 (i : grid0.Coords) : Fin 3 → Nat :=
  let arg0 : BitVec 32 := BitVec.ofNat 32 (i 0).val
  let c0_i32_18 : BitVec 32 := 0#32
  let c0_i32_19 : BitVec 32 := 0#32
  ![arg0.toNat, 0, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v60 : Index := Scalar.indexCast v0
  let c0_20 : Index := 0#32
  let c0_21 : Index := 0#32
  ![v60.toNat, 0, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v72 : Index := Scalar.indexCast v0
  let c0_27 : Index := 0#32
  let c2048 : Index := 2048#32
  ![v72.toNat, 0, 2048]
def k0_off14 (i : grid0.Coords) : Fin 3 → Nat :=
  let arg0 : BitVec 32 := BitVec.ofNat 32 (i 0).val
  let c2_i32 : BitVec 32 := 2#32
  let v0 : BitVec 32 := Scalar.remsi arg0 c2_i32
  let v84 : Index := Scalar.indexCast v0
  let c128 : Index := 128#32
  let c0_33 : Index := 0#32
  ![v84.toNat, 128, 0]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v96 : Index := Scalar.indexCast v0
  let c128_38 : Index := 128#32
  let c2048_39 : Index := 2048#32
  ![v96.toNat, 128, 2048]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v108 : Index := Scalar.indexCast v0
  let c256 : Index := 256#32
  let c0_45 : Index := 0#32
  ![v108.toNat, 256, 0]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v120 : Index := Scalar.indexCast v0
  let c256_50 : Index := 256#32
  let c2048_51 : Index := 2048#32
  ![v120.toNat, 256, 2048]
def k0_off18 (i : grid0.Coords) : Fin 3 → Nat :=
  let arg0 : BitVec 32 := BitVec.ofNat 32 (i 0).val
  let c2_i32 : BitVec 32 := 2#32
  let v0 : BitVec 32 := Scalar.remsi arg0 c2_i32
  let v132 : Index := Scalar.indexCast v0
  let c384 : Index := 384#32
  let c0_57 : Index := 0#32
  ![v132.toNat, 384, 0]
def k0_off19 (i : grid0.Coords) : Fin 3 → Nat :=
  let arg0 : BitVec 32 := BitVec.ofNat 32 (i 0).val
  let c2_i32 : BitVec 32 := 2#32
  let v0 : BitVec 32 := Scalar.remsi arg0 c2_i32
  let v144 : Index := Scalar.indexCast v0
  let c384_62 : Index := 384#32
  let c2048_63 : Index := 2048#32
  ![v144.toNat, 384, 2048]
def k0_off20 (i : grid0.Coords) : Fin 3 → Nat :=
  let arg0 : BitVec 32 := BitVec.ofNat 32 (i 0).val
  let c2_i32 : BitVec 32 := 2#32
  let v0 : BitVec 32 := Scalar.remsi arg0 c2_i32
  let v156 : Index := Scalar.indexCast v0
  let c512 : Index := 512#32
  let c0_69 : Index := 0#32
  ![v156.toNat, 512, 0]
def k0_off21 (i : grid0.Coords) : Fin 3 → Nat :=
  let arg0 : BitVec 32 := BitVec.ofNat 32 (i 0).val
  let c2_i32 : BitVec 32 := 2#32
  let v0 : BitVec 32 := Scalar.remsi arg0 c2_i32
  let v168 : Index := Scalar.indexCast v0
  let c512_74 : Index := 512#32
  let c2048_75 : Index := 2048#32
  ![v168.toNat, 512, 2048]
def k0_off22 (i : grid0.Coords) : Fin 3 → Nat :=
  let arg0 : BitVec 32 := BitVec.ofNat 32 (i 0).val
  let c2_i32 : BitVec 32 := 2#32
  let v0 : BitVec 32 := Scalar.remsi arg0 c2_i32
  let v180 : Index := Scalar.indexCast v0
  let c640 : Index := 640#32
  let c0_81 : Index := 0#32
  ![v180.toNat, 640, 0]
def k0_off23 (i : grid0.Coords) : Fin 3 → Nat :=
  let arg0 : BitVec 32 := BitVec.ofNat 32 (i 0).val
  let c2_i32 : BitVec 32 := 2#32
  let v0 : BitVec 32 := Scalar.remsi arg0 c2_i32
  let v192 : Index := Scalar.indexCast v0
  let c640_86 : Index := 640#32
  let c2048_87 : Index := 2048#32
  ![v192.toNat, 640, 2048]
def k0_off24 (i : grid0.Coords) : Fin 3 → Nat :=
  let arg0 : BitVec 32 := BitVec.ofNat 32 (i 0).val
  let c2_i32 : BitVec 32 := 2#32
  let v0 : BitVec 32 := Scalar.remsi arg0 c2_i32
  let v204 : Index := Scalar.indexCast v0
  let c768 : Index := 768#32
  let c0_93 : Index := 0#32
  ![v204.toNat, 768, 0]
def k0_off25 (i : grid0.Coords) : Fin 3 → Nat :=
  let arg0 : BitVec 32 := BitVec.ofNat 32 (i 0).val
  let c2_i32 : BitVec 32 := 2#32
  let v0 : BitVec 32 := Scalar.remsi arg0 c2_i32
  let v216 : Index := Scalar.indexCast v0
  let c768_98 : Index := 768#32
  let c2048_99 : Index := 2048#32
  ![v216.toNat, 768, 2048]
def k0_off26 (i : grid0.Coords) : Fin 3 → Nat :=
  let arg0 : BitVec 32 := BitVec.ofNat 32 (i 0).val
  let c2_i32 : BitVec 32 := 2#32
  let v0 : BitVec 32 := Scalar.remsi arg0 c2_i32
  let v228 : Index := Scalar.indexCast v0
  let c896 : Index := 896#32
  let c0_105 : Index := 0#32
  ![v228.toNat, 896, 0]
def k0_off27 (i : grid0.Coords) : Fin 3 → Nat :=
  let arg0 : BitVec 32 := BitVec.ofNat 32 (i 0).val
  let c2_i32 : BitVec 32 := 2#32
  let v0 : BitVec 32 := Scalar.remsi arg0 c2_i32
  let v240 : Index := Scalar.indexCast v0
  let c896_110 : Index := 896#32
  let c2048_111 : Index := 2048#32
  ![v240.toNat, 896, 2048]
def k0_off28 (i : grid0.Coords) : Fin 3 → Nat :=
  let arg0 : BitVec 32 := BitVec.ofNat 32 (i 0).val
  let c2_i32 : BitVec 32 := 2#32
  let v0 : BitVec 32 := Scalar.remsi arg0 c2_i32
  let v252 : Index := Scalar.indexCast v0
  let c0_117 : Index := 0#32
  let c0_118 : Index := 0#32
  ![v252.toNat, 0, 0]
def k0_off29 (i : grid0.Coords) : Fin 3 → Nat :=
  let arg0 : BitVec 32 := BitVec.ofNat 32 (i 0).val
  let c2_i32 : BitVec 32 := 2#32
  let v0 : BitVec 32 := Scalar.remsi arg0 c2_i32
  let v264 : Index := Scalar.indexCast v0
  let c128_124 : Index := 128#32
  let c0_125 : Index := 0#32
  ![v264.toNat, 128, 0]
def k0_off30 (i : grid0.Coords) : Fin 3 → Nat :=
  let arg0 : BitVec 32 := BitVec.ofNat 32 (i 0).val
  let c2_i32 : BitVec 32 := 2#32
  let v0 : BitVec 32 := Scalar.remsi arg0 c2_i32
  let v276 : Index := Scalar.indexCast v0
  let c256_131 : Index := 256#32
  let c0_132 : Index := 0#32
  ![v276.toNat, 256, 0]
def k0_off31 (i : grid0.Coords) : Fin 3 → Nat :=
  let arg0 : BitVec 32 := BitVec.ofNat 32 (i 0).val
  let c2_i32 : BitVec 32 := 2#32
  let v0 : BitVec 32 := Scalar.remsi arg0 c2_i32
  let v288 : Index := Scalar.indexCast v0
  let c384_138 : Index := 384#32
  let c0_139 : Index := 0#32
  ![v288.toNat, 384, 0]
def k0_off32 (i : grid0.Coords) : Fin 3 → Nat :=
  let arg0 : BitVec 32 := BitVec.ofNat 32 (i 0).val
  let c2_i32 : BitVec 32 := 2#32
  let v0 : BitVec 32 := Scalar.remsi arg0 c2_i32
  let v300 : Index := Scalar.indexCast v0
  let c512_145 : Index := 512#32
  let c0_146 : Index := 0#32
  ![v300.toNat, 512, 0]
def k0_off33 (i : grid0.Coords) : Fin 3 → Nat :=
  let arg0 : BitVec 32 := BitVec.ofNat 32 (i 0).val
  let c2_i32 : BitVec 32 := 2#32
  let v0 : BitVec 32 := Scalar.remsi arg0 c2_i32
  let v312 : Index := Scalar.indexCast v0
  let c640_152 : Index := 640#32
  let c0_153 : Index := 0#32
  ![v312.toNat, 640, 0]
def k0_off34 (i : grid0.Coords) : Fin 3 → Nat :=
  let arg0 : BitVec 32 := BitVec.ofNat 32 (i 0).val
  let c2_i32 : BitVec 32 := 2#32
  let v0 : BitVec 32 := Scalar.remsi arg0 c2_i32
  let v324 : Index := Scalar.indexCast v0
  let c768_159 : Index := 768#32
  let c0_160 : Index := 0#32
  ![v324.toNat, 768, 0]
def k0_off35 (i : grid0.Coords) : Fin 3 → Nat :=
  let arg0 : BitVec 32 := BitVec.ofNat 32 (i 0).val
  let c2_i32 : BitVec 32 := 2#32
  let v0 : BitVec 32 := Scalar.remsi arg0 c2_i32
  let v336 : Index := Scalar.indexCast v0
  let c896_166 : Index := 896#32
  let c0_167 : Index := 0#32
  ![v336.toNat, 896, 0]
def k0_off36 (i : grid0.Coords) : Fin 3 → Nat :=
  let arg0 : BitVec 32 := BitVec.ofNat 32 (i 0).val
  let c2_i32 : BitVec 32 := 2#32
  let v0 : BitVec 32 := Scalar.remsi arg0 c2_i32
  let v348 : Index := Scalar.indexCast v0
  let c1024 : Index := 1024#32
  let c0_173 : Index := 0#32
  ![v348.toNat, 1024, 0]
def k0_off37 (i : grid0.Coords) : Fin 3 → Nat :=
  let arg0 : BitVec 32 := BitVec.ofNat 32 (i 0).val
  let c2_i32 : BitVec 32 := 2#32
  let v0 : BitVec 32 := Scalar.remsi arg0 c2_i32
  let v360 : Index := Scalar.indexCast v0
  let c1152 : Index := 1152#32
  let c0_178 : Index := 0#32
  ![v360.toNat, 1152, 0]
def k0_off38 (i : grid0.Coords) : Fin 3 → Nat :=
  let arg0 : BitVec 32 := BitVec.ofNat 32 (i 0).val
  let c2_i32 : BitVec 32 := 2#32
  let v0 : BitVec 32 := Scalar.remsi arg0 c2_i32
  let v372 : Index := Scalar.indexCast v0
  let c1280 : Index := 1280#32
  let c0_183 : Index := 0#32
  ![v372.toNat, 1280, 0]
def k0_off39 (i : grid0.Coords) : Fin 3 → Nat :=
  let arg0 : BitVec 32 := BitVec.ofNat 32 (i 0).val
  let c2_i32 : BitVec 32 := 2#32
  let v0 : BitVec 32 := Scalar.remsi arg0 c2_i32
  let v384 : Index := Scalar.indexCast v0
  let c1408 : Index := 1408#32
  let c0_188 : Index := 0#32
  ![v384.toNat, 1408, 0]
def k0_off40 (i : grid0.Coords) : Fin 3 → Nat :=
  let arg0 : BitVec 32 := BitVec.ofNat 32 (i 0).val
  let c2_i32 : BitVec 32 := 2#32
  let v0 : BitVec 32 := Scalar.remsi arg0 c2_i32
  let v396 : Index := Scalar.indexCast v0
  let c1536 : Index := 1536#32
  let c0_193 : Index := 0#32
  ![v396.toNat, 1536, 0]
def k0_off41 (i : grid0.Coords) : Fin 3 → Nat :=
  let arg0 : BitVec 32 := BitVec.ofNat 32 (i 0).val
  let c2_i32 : BitVec 32 := 2#32
  let v0 : BitVec 32 := Scalar.remsi arg0 c2_i32
  let v408 : Index := Scalar.indexCast v0
  let c1664 : Index := 1664#32
  let c0_198 : Index := 0#32
  ![v408.toNat, 1664, 0]
def k0_off42 (i : grid0.Coords) : Fin 3 → Nat :=
  let arg0 : BitVec 32 := BitVec.ofNat 32 (i 0).val
  let c2_i32 : BitVec 32 := 2#32
  let v0 : BitVec 32 := Scalar.remsi arg0 c2_i32
  let v420 : Index := Scalar.indexCast v0
  let c1792 : Index := 1792#32
  let c0_203 : Index := 0#32
  ![v420.toNat, 1792, 0]
def k0_off43 (i : grid0.Coords) : Fin 3 → Nat :=
  let arg0 : BitVec 32 := BitVec.ofNat 32 (i 0).val
  let c2_i32 : BitVec 32 := 2#32
  let v0 : BitVec 32 := Scalar.remsi arg0 c2_i32
  let v432 : Index := Scalar.indexCast v0
  let c1920 : Index := 1920#32
  let c0_208 : Index := 0#32
  ![v432.toNat, 1920, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S256x1024 : Shape := ⟨2, ![256, 1024]⟩
abbrev S256x8 : Shape := ⟨2, ![256, 8]⟩
abbrev S8x1024x4096 : Shape := ⟨3, ![8, 1024, 4096]⟩
abbrev S8x2048x1024 : Shape := ⟨3, ![8, 2048, 1024]⟩
abbrev S8x8x4096 : Shape := ⟨3, ![8, 8, 4096]⟩
abbrev S8x16x1024 : Shape := ⟨3, ![8, 16, 1024]⟩
abbrev S8 : Shape := ⟨1, ![8]⟩
abbrev S256x2 : Shape := ⟨2, ![256, 2]⟩
abbrev S_ : Shape := ⟨0, ![]⟩
abbrev S256 : Shape := ⟨1, ![256]⟩
abbrev S256x1 : Shape := ⟨2, ![256, 1]⟩
abbrev S1x1024x4096 : Shape := ⟨3, ![1, 1024, 4096]⟩
abbrev S1024x4096 : Shape := ⟨2, ![1024, 4096]⟩
abbrev S1x8x4096 : Shape := ⟨3, ![1, 8, 4096]⟩
abbrev S8x4096 : Shape := ⟨2, ![8, 4096]⟩
abbrev S1 : Shape := ⟨1, ![1]⟩
abbrev S8x1x4096 : Shape := ⟨3, ![8, 1, 4096]⟩
abbrev S8x128x4096 : Shape := ⟨3, ![8, 128, 4096]⟩
abbrev S256x4096 : Shape := ⟨2, ![256, 4096]⟩
abbrev S256x2048 : Shape := ⟨2, ![256, 2048]⟩
abbrev S1x2048x1024 : Shape := ⟨3, ![1, 2048, 1024]⟩
abbrev S2048x1024 : Shape := ⟨2, ![2048, 1024]⟩
abbrev S1x16x1024 : Shape := ⟨3, ![1, 16, 1024]⟩
abbrev S16x1024 : Shape := ⟨2, ![16, 1024]⟩
abbrev S16x1x1024 : Shape := ⟨3, ![16, 1, 1024]⟩
abbrev S16x128x1024 : Shape := ⟨3, ![16, 128, 1024]⟩

abbrev nBuf : Space → Nat
  | .hbm => 25
  | .vmem => 8
  | .smem => 2
  | _ => 0

abbrev bufTy : (tb : Table) → Fin (tcTables nBuf tb) → BufTy
  | .hbm, ⟨0, _⟩ => ⟨S256x1024, .f32⟩
  | .hbm, ⟨1, _⟩ => ⟨S256x8, .f32⟩
  | .hbm, ⟨2, _⟩ => ⟨S8x1024x4096, .i8⟩
  | .hbm, ⟨3, _⟩ => ⟨S8x2048x1024, .i8⟩
  | .hbm, ⟨4, _⟩ => ⟨S8x8x4096, .f32⟩
  | .hbm, ⟨5, _⟩ => ⟨S8x16x1024, .f32⟩
  | .hbm, ⟨6, _⟩ => ⟨S8, .f32⟩
  | .hbm, ⟨7, _⟩ => ⟨S8, .f32⟩
  | .hbm, ⟨8, _⟩ => ⟨S256x2, .f32⟩
  | .hbm, ⟨9, _⟩ => ⟨S256x2, .i32⟩
  | .hbm, ⟨10, _⟩ => ⟨S_, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S256x1, .f32⟩
  | .hbm, ⟨16, _⟩ => ⟨S256x2, .f32⟩
  | .hbm, ⟨17, _⟩ => ⟨S256x2, .f32⟩
  | .hbm, ⟨18, _⟩ => ⟨S256x2, .f32⟩
  | .hbm, ⟨19, _⟩ => ⟨S_, .f32⟩
  | .hbm, ⟨20, _⟩ => ⟨S256, .f32⟩
  | .hbm, ⟨21, _⟩ => ⟨S256x1, .f32⟩
  | .hbm, ⟨22, _⟩ => ⟨S256x2, .f32⟩
  | .hbm, ⟨23, _⟩ => ⟨S256x2, .f32⟩
  | .hbm, ⟨24, _⟩ => ⟨S256x1024, .f32⟩
  | .local _ .vmem, ⟨0, _⟩ => ⟨S256x1024, .f32⟩
  | .local _ .vmem, ⟨1, _⟩ => ⟨S256x2, .f32⟩
  | .local _ .vmem, ⟨2, _⟩ => ⟨S256x2, .i32⟩
  | .local _ .vmem, ⟨3, _⟩ => ⟨S8x1024x4096, .i8⟩
  | .local _ .vmem, ⟨4, _⟩ => ⟨S8x2048x1024, .i8⟩
  | .local _ .vmem, ⟨5, _⟩ => ⟨S8x8x4096, .f32⟩
  | .local _ .vmem, ⟨6, _⟩ => ⟨S8x16x1024, .f32⟩
  | .local _ .vmem, ⟨7, _⟩ => ⟨S256x1024, .f32⟩
  | .local _ .smem, ⟨0, _⟩ => ⟨S8, .f32⟩
  | .local _ .smem, ⟨1, _⟩ => ⟨S8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg9_0 : Ref sig .tc := ⟨.vmem, 7, rfl⟩
abbrev cc0_stg7_0 : Ref sig .tc := ⟨.smem, 0, rfl⟩
abbrev cc0_stg8_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x4096 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Weights.lean ====
module

public import proofs.«01_k».proof.Proof.Gen.KernelIdeal.Frame
public import Idealize.ShloMosaic.PureOps.Ideal
public import Idealize.ShloMosaic.Lib.Pointwise
public import Idealize.ShloMosaic.Lib.Pipeline.ValueKit.Tiles

@[expose] public section

noncomputable section

namespace Cert.KernelIdeal.Point

open Cert.KernelIdeal Cert.KernelIdeal.Gen
open Idealize.ShloMosaic Idealize.ShloMosaic.TcCoe Idealize.ShloMosaic.Tactic Idealize.SL.Sem

set_option maxRecDepth 16384

/-- The slot a grid point reads is the parity of the point's number. -/
theorem slot_word (t : Fin cfg0.N) :
    (Scalar.indexCast (Scalar.remsi (BitVec.ofNat 32 (grid0.coords t 0)) 2#32)).toNat = t.val % 2 := by
  revert t; decide +kernel

/-- The expert's row of a scalar table is the point's number. -/
theorem expert_word (t : Fin cfg0.N) :
    (Scalar.indexCast (BitVec.ofNat 32 (grid0.coords t 0))).toNat = t.val := by
  revert t; decide +kernel

/-- A load from the first ring's slot, after the copy of expert `b`'s weights into it, reads the weights: the
    element at `x` of a load at offset `(slot, o1, o2)` is the weight at `(b, o1 + x 1, o2 + x 2)`. -/
theorem slot0_read (c : Dev nD) (s : Fin 2) (b : Fin 8) (fh : HbBuf0 (F := Ideal) c hbM0_0) (off : Fin 3 → ℕ)
    (h0 : off 0 = s.val) (size : Fin 3 → ℕ) (inb : ∀ a, off a + size a ≤ S2x1024x4096.size a)
    (x : (Rect.unit (s := S2x1024x4096) off size inb).shape.Idx) (i : Fin 1024) (j : Fin 4096)
    (hi : i.val = off 1 + (x 1).val) (hj : j.val = off 2 + (x 2).val) (hx : (x 0).val = 0) :
    View.readAt (Elt Ideal) scM0_0.view (Rect.unit (s := S2x1024x4096) off size inb).toLoadRect
      ((rslot0_0 s).view.writes (Elt Ideal) (rslot0_0 s).view.junk
        [⟨Rect.whole S1024x4096, ReadAs.same.apply (View.read (Elt Ideal) (srcB0_0 b).view fh)⟩]) x
      = hbM0_0.view.read (Elt Ideal) fh (ix3 b i j) := by
  have key (h : S1024x4096.numel = S1x1024x4096.numel) :
      Shape.reshapeEquiv h (ix2 i j) = (ix3 (0 : Fin 1) i j : S1x1024x4096.Idx) :=
    Shape.reshapeEquiv_eq_of_rowMajor h (by
      rw [Shape.rowMajor_val_three, Shape.rowMajor_val_two]
      show (0 * 1024 + i.val) * 4096 + j.val = i.val * 4096 + j.val
      omega)
  have e1 : (rslot0_0 s).view.emb (ix2 i j) = scM0_0.view.emb ((Rect.unit (s := S2x1024x4096) off size inb).emb x) := by
    refine (congrArg (fun z => scM0_0.view.emb
      ((Rect.unit (s := S2x1024x4096) ![s.val,0,0] S1x1024x4096.size (inb_slot0_0 s)).emb z)) (key (by decide))).trans ?_
    refine congrArg scM0_0.view.emb ?_
    funext a
    apply Fin.ext
    match a with
    | ⟨0, _⟩ => show s.val + 1 * 0 = off 0 + 1 * (x 0).val; omega
    | ⟨1, _⟩ => show 0 + 1 * i.val = off 1 + 1 * (x 1).val; omega
    | ⟨2, _⟩ => show 0 + 1 * j.val = off 2 + 1 * (x 2).val; omega
  have e2 : (srcB0_0 b).view.emb (ix2 i j) = hbM0_0.view.emb (ix3 b i j) := by
    refine (congrArg (fun z => hbM0_0.view.emb
      ((Rect.unit (s := S8x1024x4096) ![1*b.val,0,0] S1x1024x4096.size (inb_src0_0 b)).emb z)) (key (by decide))).trans ?_
    refine congrArg hbM0_0.view.emb ?_
    funext a
    apply Fin.ext
    match a with
    | ⟨0, _⟩ => show 1 * b.val + 1 * 0 = b.val; omega
    | ⟨1, _⟩ => show 0 + 1 * i.val = i.val; omega
    | ⟨2, _⟩ => show 0 + 1 * j.val = j.val; omega
  have e3 : (View.read (Elt Ideal) (srcB0_0 b).view fh) (ix2 i j) = hbM0_0.view.read (Elt Ideal) fh (ix3 b i j) :=
    congrArg fh e2
  have hs := congrFun (View.read_writes_whole (Val := Elt Ideal) (rslot0_0 s).view (rslot0_0 s).view.junk
    (ReadAs.same.apply (View.read (Elt Ideal) (srcB0_0 b).view fh))) (ix2 i j)
  have e4 : ∀ g : (rslot0_0 s).view.ty.Contents (Elt Ideal),
      View.readAt (Elt Ideal) scM0_0.view (Rect.unit (s := S2x1024x4096) off size inb).toLoadRect g x
        = View.read (Elt Ideal) (rslot0_0 s).view g (ix2 i j) := fun g => congrArg g e1.symm
  exact (e4 _).trans (hs.trans e3)

/-- A load from the second ring's slot, after the copy of expert `b`'s weights into it, reads the weights: the
    element at `x` of a load at offset `(slot, o1, o2)` is the weight at `(b, o1 + x 1, o2 + x 2)`. -/
theorem slot1_read (c : Dev nD) (s : Fin 2) (b : Fin 8) (fh : HbBuf0 (F := Ideal) c hbM0_1) (off : Fin 3 → ℕ)
    (h0 : off 0 = s.val) (size : Fin 3 → ℕ) (inb : ∀ a, off a + size a ≤ S2x2048x1024.size a)
    (x : (Rect.unit (s := S2x2048x1024) off size inb).shape.Idx) (i : Fin 2048) (j : Fin 1024)
    (hi : i.val = off 1 + (x 1).val) (hj : j.val = off 2 + (x 2).val) (hx : (x 0).val = 0) :
    View.readAt (Elt Ideal) scM0_1.view (Rect.unit (s := S2x2048x1024) off size inb).toLoadRect
      ((rslot0_1 s).view.writes (Elt Ideal) (rslot0_1 s).view.junk
        [⟨Rect.whole S2048x1024, ReadAs.same.apply (View.read (Elt Ideal) (srcB0_1 b).view fh)⟩]) x
      = hbM0_1.view.read (Elt Ideal) fh (ix3 b i j) := by
  have key (h : S2048x1024.numel = S1x2048x1024.numel) :
      Shape.reshapeEquiv h (ix2 i j) = (ix3 (0 : Fin 1) i j : S1x2048x1024.Idx) :=
    Shape.reshapeEquiv_eq_of_rowMajor h (by
      rw [Shape.rowMajor_val_three, Shape.rowMajor_val_two]
      show (0 * 2048 + i.val) * 1024 + j.val = i.val * 1024 + j.val
      omega)
  have e1 : (rslot0_1 s).view.emb (ix2 i j) = scM0_1.view.emb ((Rect.unit (s := S2x2048x1024) off size inb).emb x) := by
    refine (congrArg (fun z => scM0_1.view.emb
      ((Rect.unit (s := S2x2048x1024) ![s.val,0,0] S1x2048x1024.size (inb_slot0_1 s)).emb z)) (key (by decide))).trans ?_
    refine congrArg scM0_1.view.emb ?_
    funext a
    apply Fin.ext
    match a with
    | ⟨0, _⟩ => show s.val + 1 * 0 = off 0 + 1 * (x 0).val; omega
    | ⟨1, _⟩ => show 0 + 1 * i.val = off 1 + 1 * (x 1).val; omega
    | ⟨2, _⟩ => show 0 + 1 * j.val = off 2 + 1 * (x 2).val; omega
  have e2 : (srcB0_1 b).view.emb (ix2 i j) = hbM0_1.view.emb (ix3 b i j) := by
    refine (congrArg (fun z => hbM0_1.view.emb
      ((Rect.unit (s := S8x2048x1024) ![1*b.val,0,0] S1x2048x1024.size (inb_src0_1 b)).emb z)) (key (by decide))).trans ?_
    refine congrArg hbM0_1.view.emb ?_
    funext a
    apply Fin.ext
    match a with
    | ⟨0, _⟩ => show 1 * b.val + 1 * 0 = b.val; omega
    | ⟨1, _⟩ => show 0 + 1 * i.val = i.val; omega
    | ⟨2, _⟩ => show 0 + 1 * j.val = j.val; omega
  have e3 : (View.read (Elt Ideal) (srcB0_1 b).view fh) (ix2 i j) = hbM0_1.view.read (Elt Ideal) fh (ix3 b i j) :=
    congrArg fh e2
  have hs := congrFun (View.read_writes_whole (Val := Elt Ideal) (rslot0_1 s).view (rslot0_1 s).view.junk
    (ReadAs.same.apply (View.read (Elt Ideal) (srcB0_1 b).view fh))) (ix2 i j)
  have e4 : ∀ g : (rslot0_1 s).view.ty.Contents (Elt Ideal),
      View.readAt (Elt Ideal) scM0_1.view (Rect.unit (s := S2x2048x1024) off size inb).toLoadRect g x
        = View.read (Elt Ideal) (rslot0_1 s).view g (ix2 i j) := fun g => congrArg g e1.symm
  exact (e4 _).trans (hs.trans e3)

/-- One block of 128 rows dequantized: the weights read from the slot times the block's row of scales. -/
theorem piece0_at (c : Dev nD) (t : Fin cfg0.N) (fh : HbBuf0 (F := Ideal) c hbM0_0) (xs : Vec Ideal S1x8x4096 .f32)
    (argS : Memref sig .tc .vmem S1x8x4096 .f32) (hS : argS.IsWhole) (o k : ℕ)
    (offW : Fin 3 → ℕ) (h0 : offW 0 = t.val % 2) (h1 : offW 1 = 128 * k) (h2 : offW 2 = o)
    (inbW : ∀ a, offW a + S1x128x2048.size a ≤ S2x1024x4096.size a)
    (offS : Fin 3 → ℕ) (g0 : offS 0 = 0) (g1 : offS 1 = k) (g2 : offS 2 = o)
    (inbS : ∀ a, offS a + S1x1x2048.size a ≤ S1x8x4096.size a)
    (x : S128x2048.Idx) (i : Fin 1024) (hi : i.val = 128 * k + (x 0).val) (j : Fin 4096) (hj : j.val = o + (x 1).val)
    (q : Fin 8) (hq : q.val = k) :
    k0_pay12 (F := Ideal)
      (View.readAt (Elt Ideal) scM0_0.view (Rect.unit (s := S2x1024x4096) offW S1x128x2048.size inbW).toLoadRect
        ((rslot0_0 (Fin.ofNat 2 t.val)).view.writes (Elt Ideal) (rslot0_0 (Fin.ofNat 2 t.val)).view.junk
          [⟨Rect.whole S1024x4096, ReadAs.same.apply (View.read (Elt Ideal) (srcB0_0 (Ring.bk 8 t.val)).view fh)⟩]))
      (View.readAt (Elt Ideal) argS.view (Rect.unit (s := S1x8x4096) offS S1x1x2048.size inbS).toLoadRect (hS.unread xs)) x
      = FloatOps.sitofp (F := Ideal) .f32 (hbM0_0.view.read (Elt Ideal) fh (ix3 (Ring.bk 8 t.val) i j)) * xs (ix3 0 q j) := by
  have e : ∀ (a : Vec Ideal S1x128x2048 .i8) (b : Vec Ideal S1x1x2048 .f32),
      k0_pay12 (F := Ideal) a b x = FloatOps.sitofp (F := Ideal) .f32 (a (ix3 0 (x 0) (x 1))) * b (ix3 0 0 (x 1)) := by
    intro a b
    idx_vars x
    pointwise [k0_pay12]
  rw [e, slot0_read c _ (Ring.bk 8 t.val) fh offW h0 _ inbW _ i j (by rw [hi, h1]; rfl) (by rw [hj, h2]; rfl) rfl,
    View.readAt_eq_ld, hS.read_unread]
  refine congrArg (_ * ·) ?_
  refine View.ld_unit_apply_of xs offS _ inbS _ _ ?_
  intro a
  match a with
  | ⟨0, _⟩ => show 0 = offS 0 + 0; omega
  | ⟨1, _⟩ => show q.val = offS 1 + 0; omega
  | ⟨2, _⟩ => show j.val = offS 2 + (x 1).val; omega

/-- One block of 128 rows dequantized: the weights read from the slot times the block's row of scales. -/
theorem piece1_at (c : Dev nD) (t : Fin cfg0.N) (fh : HbBuf0 (F := Ideal) c hbM0_1) (xs : Vec Ideal S1x16x1024 .f32)
    (argS : Memref sig .tc .vmem S1x16x1024 .f32) (hS : argS.IsWhole) (o k : ℕ)
    (offW : Fin 3 → ℕ) (h0 : offW 0 = t.val % 2) (h1 : offW 1 = 128 * k) (h2 : offW 2 = o)
    (inbW : ∀ a, offW a + S1x128x1024.size a ≤ S2x2048x1024.size a)
    (offS : Fin 3 → ℕ) (g0 : offS 0 = 0) (g1 : offS 1 = k) (g2 : offS 2 = o)
    (inbS : ∀ a, offS a + S1x1x1024.size a ≤ S1x16x1024.size a)
    (x : S128x1024.Idx) (i : Fin 2048) (hi : i.val = 128 * k + (x 0).val) (j : Fin 1024) (hj : j.val = o + (x 1).val)
    (q : Fin 16) (hq : q.val = k) :
    k0_pay35 (F := Ideal)
      (View.readAt (Elt Ideal) scM0_1.view (Rect.unit (s := S2x2048x1024) offW S1x128x1024.size inbW).toLoadRect
        ((rslot0_1 (Fin.ofNat 2 t.val)).view.writes (Elt Ideal) (rslot0_1 (Fin.ofNat 2 t.val)).view.junk
          [⟨Rect.whole S2048x1024, ReadAs.same.apply (View.read (Elt Ideal) (srcB0_1 (Ring.bk 8 t.val)).view fh)⟩]))
      (View.readAt (Elt Ideal) argS.view (Rect.unit (s := S1x16x1024) offS S1x1x1024.size inbS).toLoadRect (hS.unread xs)) x
      = FloatOps.sitofp (F := Ideal) .f32 (hbM0_1.view.read (Elt Ideal) fh (ix3 (Ring.bk 8 t.val) i j)) * xs (ix3 0 q j) := by
  have e : ∀ (a : Vec Ideal S1x128x1024 .i8) (b : Vec Ideal S1x1x1024 .f32),
      k0_pay35 (F := Ideal) a b x = FloatOps.sitofp (F := Ideal) .f32 (a (ix3 0 (x 0) (x 1))) * b (ix3 0 0 (x 1)) := by
    intro a b
    idx_vars x
    pointwise [k0_pay35]
  rw [e, slot1_read c _ (Ring.bk 8 t.val) fh offW h0 _ inbW _ i j (by rw [hi, h1]; rfl) (by rw [hj, h2]; rfl) rfl,
    View.readAt_eq_ld, hS.read_unread]
  refine congrArg (_ * ·) ?_
  refine View.ld_unit_apply_of xs offS _ inbS _ _ ?_
  intro a
  match a with
  | ⟨0, _⟩ => show 0 = offS 0 + 0; omega
  | ⟨1, _⟩ => show q.val = offS 1 + 0; omega
  | ⟨2, _⟩ => show j.val = offS 2 + (x 1).val; omega

/-- An array written as 8 blocks of 128 rows, each block the array `G`'s, reads as `G`. -/
theorem rows8 (v : View sig .tc .vmem S1024x2048 .f32) (G : Vec Ideal S1024x2048 .f32)
    (p0 p1 p2 p3 p4 p5 p6 p7 : Vec Ideal S128x2048 .f32)
    (h0 : ∀ (x : S128x2048.Idx) (k : Fin 1024), k.val = 0 + (x 0).val → p0 x = G (ix2 k (x 1)))
    (h1 : ∀ (x : S128x2048.Idx) (k : Fin 1024), k.val = 128 + (x 0).val → p1 x = G (ix2 k (x 1)))
    (h2 : ∀ (x : S128x2048.Idx) (k : Fin 1024), k.val = 256 + (x 0).val → p2 x = G (ix2 k (x 1)))
    (h3 : ∀ (x : S128x2048.Idx) (k : Fin 1024), k.val = 384 + (x 0).val → p3 x = G (ix2 k (x 1)))
    (h4 : ∀ (x : S128x2048.Idx) (k : Fin 1024), k.val = 512 + (x 0).val → p4 x = G (ix2 k (x 1)))
    (h5 : ∀ (x : S128x2048.Idx) (k : Fin 1024), k.val = 640 + (x 0).val → p5 x = G (ix2 k (x 1)))
    (h6 : ∀ (x : S128x2048.Idx) (k : Fin 1024), k.val = 768 + (x 0).val → p6 x = G (ix2 k (x 1)))
    (h7 : ∀ (x : S128x2048.Idx) (k : Fin 1024), k.val = 896 + (x 0).val → p7 x = G (ix2 k (x 1))) :
    v.readCov (Val := Elt Ideal) [⟨Rect.unit (s := S1024x2048) ![896, 0] S128x2048.size inb_S1024x2048_S128x2048_896_0, p7⟩,
        ⟨Rect.unit (s := S1024x2048) ![768, 0] S128x2048.size inb_S1024x2048_S128x2048_768_0, p6⟩,
        ⟨Rect.unit (s := S1024x2048) ![640, 0] S128x2048.size inb_S1024x2048_S128x2048_640_0, p5⟩,
        ⟨Rect.unit (s := S1024x2048) ![512, 0] S128x2048.size inb_S1024x2048_S128x2048_512_0, p4⟩,
        ⟨Rect.unit (s := S1024x2048) ![384, 0] S128x2048.size inb_S1024x2048_S128x2048_384_0, p3⟩,
        ⟨Rect.unit (s := S1024x2048) ![256, 0] S128x2048.size inb_S1024x2048_S128x2048_256_0, p2⟩,
        ⟨Rect.unit (s := S1024x2048) ![128, 0] S128x2048.size inb_S1024x2048_S128x2048_128_0, p1⟩,
        ⟨Rect.unit (s := S1024x2048) ![0, 0] S128x2048.size inb_S1024x2048_S128x2048_0_0, p0⟩]
      (Rect.unit (s := S1024x2048) ![0, 0] S1024x2048.size inb_S1024x2048_S1024x2048_0_0).toLoadRect = G := by
  rw [View.readCov_eq_canon']
  funext y
  have hy : (Rect.unit (s := S1024x2048) ![0, 0] S1024x2048.size inb_S1024x2048_S1024x2048_0_0).toLoadRect.idx y = y := by
    funext a
    apply Fin.ext
    match a with
    | ⟨0, _⟩ => show 0 + 1 * (y 0).val = (y 0).val; omega
    | ⟨1, _⟩ => show 0 + 1 * (y 1).val = (y 1).val; omega
  rw [hy]
  have hG : ∀ (x : S128x2048.Idx), (y 1).val = (x 1).val → G y = G (ix2 (y 0) (x 1)) := by
    intro x hx
    refine congrArg G ?_
    funext a
    match a with
    | ⟨0, _⟩ => rfl
    | ⟨1, _⟩ => exact Fin.ext hx
  canon_tiles x e
  all_goals rw [hG x (by omega)]
  · exact h7 x (y 0) (by omega)
  · exact h6 x (y 0) (by omega)
  · exact h5 x (y 0) (by omega)
  · exact h4 x (y 0) (by omega)
  · exact h3 x (y 0) (by omega)
  · exact h2 x (y 0) (by omega)
  · exact h1 x (y 0) (by omega)
  · exact h0 x (y 0) (by omega)

/-- An array written as 16 blocks of 128 rows, each block the array `G`'s, reads as `G`. -/
theorem rows16 (v : View sig .tc .vmem S2048x1024 .f32) (G : Vec Ideal S2048x1024 .f32)
    (p0 p1 p2 p3 p4 p5 p6 p7 p8 p9 p10 p11 p12 p13 p14 p15 : Vec Ideal S128x1024 .f32)
    (h0 : ∀ (x : S128x1024.Idx) (k : Fin 2048), k.val = 0 + (x 0).val → p0 x = G (ix2 k (x 1)))
    (h1 : ∀ (x : S128x1024.Idx) (k : Fin 2048), k.val = 128 + (x 0).val → p1 x = G (ix2 k (x 1)))
    (h2 : ∀ (x : S128x1024.Idx) (k : Fin 2048), k.val = 256 + (x 0).val → p2 x = G (ix2 k (x 1)))
    (h3 : ∀ (x : S128x1024.Idx) (k : Fin 2048), k.val = 384 + (x 0).val → p3 x = G (ix2 k (x 1)))
    (h4 : ∀ (x : S128x1024.Idx) (k : Fin 2048), k.val = 512 + (x 0).val → p4 x = G (ix2 k (x 1)))
    (h5 : ∀ (x : S128x1024.Idx) (k : Fin 2048), k.val = 640 + (x 0).val → p5 x = G (ix2 k (x 1)))
    (h6 : ∀ (x : S128x1024.Idx) (k : Fin 2048), k.val = 768 + (x 0).val → p6 x = G (ix2 k (x 1)))
    (h7 : ∀ (x : S128x1024.Idx) (k : Fin 2048), k.val = 896 + (x 0).val → p7 x = G (ix2 k (x 1)))
    (h8 : ∀ (x : S128x1024.Idx) (k : Fin 2048), k.val = 1024 + (x 0).val → p8 x = G (ix2 k (x 1)))
    (h9 : ∀ (x : S128x1024.Idx) (k : Fin 2048), k.val = 1152 + (x 0).val → p9 x = G (ix2 k (x 1)))
    (h10 : ∀ (x : S128x1024.Idx) (k : Fin 2048), k.val = 1280 + (x 0).val → p10 x = G (ix2 k (x 1)))
    (h11 : ∀ (x : S128x1024.Idx) (k : Fin 2048), k.val = 1408 + (x 0).val → p11 x = G (ix2 k (x 1)))
    (h12 : ∀ (x : S128x1024.Idx) (k : Fin 2048), k.val = 1536 + (x 0).val → p12 x = G (ix2 k (x 1)))
    (h13 : ∀ (x : S128x1024.Idx) (k : Fin 2048), k.val = 1664 + (x 0).val → p13 x = G (ix2 k (x 1)))
    (h14 : ∀ (x : S128x1024.Idx) (k : Fin 2048), k.val = 1792 + (x 0).val → p14 x = G (ix2 k (x 1)))
    (h15 : ∀ (x : S128x1024.Idx) (k : Fin 2048), k.val = 1920 + (x 0).val → p15 x = G (ix2 k (x 1))) :
    v.readCov (Val := Elt Ideal) [⟨Rect.unit (s := S2048x1024) ![1920, 0] S128x1024.size inb_S2048x1024_S128x1024_1920_0, p15⟩,
        ⟨Rect.unit (s := S2048x1024) ![1792, 0] S128x1024.size inb_S2048x1024_S128x1024_1792_0, p14⟩,
        ⟨Rect.unit (s := S2048x1024) ![1664, 0] S128x1024.size inb_S2048x1024_S128x1024_1664_0, p13⟩,
        ⟨Rect.unit (s := S2048x1024) ![1536, 0] S128x1024.size inb_S2048x1024_S128x1024_1536_0, p12⟩,
        ⟨Rect.unit (s := S2048x1024) ![1408, 0] S128x1024.size inb_S2048x1024_S128x1024_1408_0, p11⟩,
        ⟨Rect.unit (s := S2048x1024) ![1280, 0] S128x1024.size inb_S2048x1024_S128x1024_1280_0, p10⟩,
        ⟨Rect.unit (s := S2048x1024) ![1152, 0] S128x1024.size inb_S2048x1024_S128x1024_1152_0, p9⟩,
        ⟨Rect.unit (s := S2048x1024) ![1024, 0] S128x1024.size inb_S2048x1024_S128x1024_1024_0, p8⟩,
        ⟨Rect.unit (s := S2048x1024) ![896, 0] S128x1024.size inb_S2048x1024_S128x1024_896_0, p7⟩,
        ⟨Rect.unit (s := S2048x1024) ![768, 0] S128x1024.size inb_S2048x1024_S128x1024_768_0, p6⟩,
        ⟨Rect.unit (s := S2048x1024) ![640, 0] S128x1024.size inb_S2048x1024_S128x1024_640_0, p5⟩,
        ⟨Rect.unit (s := S2048x1024) ![512, 0] S128x1024.size inb_S2048x1024_S128x1024_512_0, p4⟩,
        ⟨Rect.unit (s := S2048x1024) ![384, 0] S128x1024.size inb_S2048x1024_S128x1024_384_0, p3⟩,
        ⟨Rect.unit (s := S2048x1024) ![256, 0] S128x1024.size inb_S2048x1024_S128x1024_256_0, p2⟩,
        ⟨Rect.unit (s := S2048x1024) ![128, 0] S128x1024.size inb_S2048x1024_S128x1024_128_0, p1⟩,
        ⟨Rect.unit (s := S2048x1024) ![0, 0] S128x1024.size inb_S2048x1024_S128x1024_0_0, p0⟩]
      (Rect.unit (s := S2048x1024) ![0, 0] S2048x1024.size inb_S2048x1024_S2048x1024_0_0).toLoadRect = G := by
  rw [View.readCov_eq_canon']
  funext y
  have hy : (Rect.unit (s := S2048x1024) ![0, 0] S2048x1024.size inb_S2048x1024_S2048x1024_0_0).toLoadRect.idx y = y := by
    funext a
    apply Fin.ext
    match a with
    | ⟨0, _⟩ => show 0 + 1 * (y 0).val = (y 0).val; omega
    | ⟨1, _⟩ => show 0 + 1 * (y 1).val = (y 1).val; omega
  rw [hy]
  have hG : ∀ (x : S128x1024.Idx), (y 1).val = (x 1).val → G y = G (ix2 (y 0) (x 1)) := by
    intro x hx
    refine congrArg G ?_
    funext a
    match a with
    | ⟨0, _⟩ => rfl
    | ⟨1, _⟩ => exact Fin.ext hx
  canon_tiles x e
  all_goals rw [hG x (by omega)]
  · exact h15 x (y 0) (by omega)
  · exact h14 x (y 0) (by omega)
  · exact h13 x (y 0) (by omega)
  · exact h12 x (y 0) (by omega)
  · exact h11 x (y 0) (by omega)
  · exact h10 x (y 0) (by omega)
  · exact h9 x (y 0) (by omega)
  · exact h8 x (y 0) (by omega)
  · exact h7 x (y 0) (by omega)
  · exact h6 x (y 0) (by omega)
  · exact h5 x (y 0) (by omega)
  · exact h4 x (y 0) (by omega)
  · exact h3 x (y 0) (by omega)
  · exact h2 x (y 0) (by omega)
  · exact h1 x (y 0) (by omega)
  · exact h0 x (y 0) (by omega)
end Cert.KernelIdeal.Point
-- ==== Proof.Spec.lean ====
module

public import Idealize.ShloMosaic.PureOps.Ideal
public import Idealize.ShloMosaic.Lib.Pointwise

@[expose] public section

noncomputable section

namespace Cert.Moe

open Idealize.ShloMosaic

/-- A value clipped to the range of the 8-bit format: at most 448, at least -448. -/
def clip (x : EReal) : EReal :=
  min (Ideal.ofBits .f32 1138753536#32) (max (Ideal.ofBits .f32 3286237184#32) x)

/-- A dequantized weight: the 8-bit integer times its scale. -/
def deq (q : BitVec 8) (s : EReal) : EReal := FloatOps.sitofp (F := Ideal) .f32 q * s

/-- One column of the first layer: the row of activations, quantized by `p`, against a column of weights, scaled
    back by `p`. -/
def layer {n : ℕ} (p : EReal) (h : Fin n → EReal) (w : Fin n → EReal) : EReal :=
  (∑ k, clip (Ideal.div (h k) p) * w k) * p

/-- The gated activation: the first value times the second one's `g * sigmoid g`. -/
def gated (f g : EReal) : EReal := f * (g * Ideal.logistic g)

/-- Column `j` of the first half of 4096 columns. -/
def lo (j : Fin 2048) : Fin 4096 := ⟨j.val, by omega⟩

/-- Column `j` of the second half of 4096 columns. -/
def hi (j : Fin 2048) : Fin 4096 := ⟨2048 + j.val, by omega⟩

/-- The block of 128 rows that holds row `k` of 1024. -/
def rowBlock8 (k : Fin 1024) : Fin 8 := ⟨k.val / 128, by omega⟩

/-- The block of 128 rows that holds row `k` of 2048. -/
def rowBlock16 (k : Fin 2048) : Fin 16 := ⟨k.val / 128, by omega⟩

/-- One output of one expert: two columns of the first layer gated, then the second layer. -/
def expert (p13 p2 : EReal) (h : Fin 1024 → EReal) (w13 : Fin 1024 → Fin 4096 → EReal) (w2 : Fin 2048 → EReal) : EReal :=
  layer p2 (fun j => gated (layer p13 h fun k => w13 k (lo j)) (layer p13 h fun k => w13 k (hi j))) w2

/-- What expert `e` computes for row `r` and output column `l`, from the arrays of the whole problem. -/
def expertAt (hs : Vec Ideal ⟨2, ![256, 1024]⟩ .f32) (W13 : Vec Ideal ⟨3, ![8, 1024, 4096]⟩ .i8)
    (W2 : Vec Ideal ⟨3, ![8, 2048, 1024]⟩ .i8) (S13 : Vec Ideal ⟨3, ![8, 8, 4096]⟩ .f32)
    (S2 : Vec Ideal ⟨3, ![8, 16, 1024]⟩ .f32) (P13 P2 : Vec Ideal ⟨1, ![8]⟩ .f32)
    (e : Fin 8) (r : Fin 256) (l : Fin 1024) : EReal :=
  expert (P13 (ix1 e)) (P2 (ix1 e)) (fun k => hs (ix2 r k))
    (fun k j => deq (W13 (ix3 e k j)) (S13 (ix3 e (rowBlock8 k) j)))
    (fun j => deq (W2 (ix3 e j l)) (S2 (ix3 e (rowBlock16 j) l)))

/-- The reference's routing weight of expert `e` for row `r`: the sum of the row's scales times the flags "this
    choice is expert `e`". -/
def pick (sc : Vec Ideal ⟨2, ![256, 2]⟩ .f32) (ix : Vec Ideal ⟨2, ![256, 2]⟩ .i32) (e : Fin 8) (r : Fin 256) : EReal :=
  ∑ a : Fin 2, sc (ix2 r a) * FloatOps.sitofp (F := Ideal) .f32
    (BitVec.setWidth 32 (IntOp.cmpi CmpIPredicate.eq (ix (ix2 r a)) (BitVec.ofNat 32 e.val)))

/-- The running total of the first `n` experts' contributions, added in order from zero. -/
def total (f : Fin 8 → EReal) : ℕ → EReal
  | 0 => 0
  | n + 1 => total f n + f (Fin.ofNat 8 n)

end Cert.Moe
-- ==== Proof.Point.lean ====
module

public import proofs.«01_k».proof.Proof.Weights
public import proofs.«01_k».proof.Proof.Spec

@[expose] public section
noncomputable section
namespace Cert.KernelIdeal.Point
open Cert.KernelIdeal Cert.KernelIdeal.Gen Cert.Moe
open Idealize.ShloMosaic Idealize.ShloMosaic.TcCoe Idealize.ShloMosaic.Tactic Idealize.SL.Sem
set_option maxRecDepth 16384

/-- The dequantized half of the first layer's weights whose columns `col` picks. -/
def half (c : Dev nD) (t : Fin cfg0.N) (fh0 : HbBuf0 (F := Ideal) c hbM0_0) (x2 : Vec Ideal S1x8x4096 .f32)
    (col : Fin 2048 → Fin 4096) : Vec Ideal S1024x2048 .f32 := fun y =>
  deq (hbM0_0.view.read (Elt Ideal) fh0 (ix3 (Ring.bk 8 t.val) (y 0) (col (y 1)))) (x2 (ix3 0 (rowBlock8 (y 0)) (col (y 1))))

/-- The dequantized weights of the second layer. -/
def second (c : Dev nD) (t : Fin cfg0.N) (fh1 : HbBuf0 (F := Ideal) c hbM0_1) (x3 : Vec Ideal S1x16x1024 .f32) :
    Vec Ideal S2048x1024 .f32 := fun y =>
  deq (hbM0_1.view.read (Elt Ideal) fh1 (ix3 (Ring.bk 8 t.val) (y 0) (y 1))) (x3 (ix3 0 (rowBlock16 (y 0)) (y 1)))

/-- The routing weight of the point's expert, per row, as the kernel computes it. -/
def gate (t : Fin cfg0.N) (x1 : Vec Ideal S256x8 .f32) : Vec Ideal S256x1 .f32 :=
  k0_pay11 (k0_pay7 x1) (k0_pay8 x1) (k0_pay9 (grid0.coords t) x1) (k0_pay10 (grid0.coords t))

/-- What a grid point leaves in the output block over the block's earlier contents `acc`. -/
def step (c : Dev nD) (t : Fin cfg0.N) (x0 : Vec Ideal S256x1024 .f32) (x1 : Vec Ideal S256x8 .f32)
    (x2 : Vec Ideal S1x8x4096 .f32) (x3 : Vec Ideal S1x16x1024 .f32) (x4 x5 : Vec Ideal S8 .f32)
    (fh0 : HbBuf0 (F := Ideal) c hbM0_0) (fh1 : HbBuf0 (F := Ideal) c hbM0_1) (acc : Vec Ideal S256x1024 .f32) :
    Vec Ideal S256x1024 .f32 :=
  k0_pay1 (gate t x1)
    (k0_pay55 (x4 (ix1 (Ring.bk 8 t.val))) (x5 (ix1 (Ring.bk 8 t.val))) x0 (half c t fh0 x2 lo) (half c t fh0 x2 hi)
      (second c t fh1 x3)) acc

/-- A scalar read from a table of eight at the point's own row. -/
theorem scalar_read (t : Fin cfg0.N) (arg : Memref sig .tc .smem S8 .f32) (h : arg.IsWhole) (x : Vec Ideal S8 .f32)
    (off : Fin 1 → ℕ) (h0 : off 0 = t.val) (inb : ∀ a, off a + S1.size a ≤ S8.size a) (i : S1.Idx) :
    View.readAt (Elt Ideal) arg.view (Rect.unit (s := S8) off S1.size inb).toLoadRect (h.unread x) i
      = x (ix1 (Ring.bk 8 t.val)) := by
  rw [View.readAt_eq_ld, h.read_unread]
  refine View.ld_unit_apply_of x off _ inb _ _ ?_
  intro a
  have ht : t.val < 8 := lt_of_lt_of_eq t.isLt (show cfg0.N = 8 from N_0)
  match a with
  | ⟨0, _⟩ =>
    have hi : (i 0).val = 0 := by have h1 : (i 0).val < 1 := (i 0).isLt; omega
    show t.val % 8 = off 0 + (i 0).val
    omega

/-- A row in the `i`-th block of 128 rows of 1024 is in block `i`. -/
theorem block8 (x : Fin 128) (k : Fin 1024) (i : ℕ) (hk : k.val = 128 * i + x.val) : (rowBlock8 k).val = i := by
  have := x.isLt
  show k.val / 128 = i
  omega

/-- A row in the `i`-th block of 128 rows of 2048 is in block `i`. -/
theorem block16 (x : Fin 128) (k : Fin 2048) (i : ℕ) (hk : k.val = 128 * i + x.val) : (rowBlock16 k).val = i := by
  have := x.isLt
  show k.val / 128 = i
  omega

set_option maxHeartbeats 4000000 in
/-- The first point leaves its contribution over zeros. -/
theorem out_A (c : Dev nD) (t : Fin cfg0.N) (arg1 : Memref sig .tc .vmem S256x1024 .f32) (harg1 : arg1.IsWhole) (arg2 : Memref sig .tc .vmem S256x8 .f32) (harg2 : arg2.IsWhole) (arg4 : Memref sig .tc .vmem S1x8x4096 .f32) (harg4 : arg4.IsWhole) (arg6 : Memref sig .tc .vmem S1x16x1024 .f32) (harg6 : arg6.IsWhole) (arg7 : Memref sig .tc .smem S8 .f32) (harg7 : arg7.IsWhole) (arg8 : Memref sig .tc .smem S8 .f32) (harg8 : arg8.IsWhole) (arg9 : Memref sig .tc .vmem S256x1024 .f32) (harg9 : arg9.IsWhole) (arg12 : Memref sig .tc .vmem S1024x2048 .f32) (harg12 : arg12.IsWhole) (arg13 : Memref sig .tc .vmem S1024x2048 .f32) (harg13 : arg13.IsWhole) (arg14 : Memref sig .tc .vmem S2048x1024 .f32) (harg14 : arg14.IsWhole) (hc0 : cond0_0 (grid0.coords t)) (hc1 : cond0_1 (grid0.coords t))
    (x0 : Vec Ideal S256x1024 .f32) (x1 : Vec Ideal S256x8 .f32) (x2 : Vec Ideal S1x8x4096 .f32) (x3 : Vec Ideal S1x16x1024 .f32) (x4 : Vec Ideal S8 .f32) (x5 : Vec Ideal S8 .f32) (fh0 : HbBuf0 (F := Ideal) c hbM0_0) (fh1 : HbBuf0 (F := Ideal) c hbM0_1) :
    out0_A_6 c t arg1 harg1 arg2 harg2 arg4 harg4 arg6 harg6 arg7 harg7 arg8 harg8 arg9 harg9 arg12 harg12 arg13 harg13 arg14 harg14 hc0 hc1 x0 x1 x2 x3 x4 x5 fh0 fh1
      = step c t x0 x1 x2 x3 x4 x5 fh0 fh1 (k0_pay2 (F := Ideal)) := by
  unfold out0_A_6
  rw [View.read_writes_junk_eq_canon]
  unfold kernelRun0_A
  dsimp only
  sl_unfold_words
  rw [View.canon_cons_unit_zero (by decide), View.readCov_unit_zero arg9.view (by decide)]
  rw [rows8 arg12.view (half c t fh0 x2 lo)]
  rotate_left
  · exact fun x k hk => piece0_at c t fh0 x2 arg4 harg4 0 0 _ (slot_word t) rfl rfl _ _ rfl rfl rfl _ x k hk (lo (x 1)) (Nat.zero_add _).symm _ (block8 (x 0) k 0 hk)
  · exact fun x k hk => piece0_at c t fh0 x2 arg4 harg4 0 1 _ (slot_word t) rfl rfl _ _ rfl rfl rfl _ x k hk (lo (x 1)) (Nat.zero_add _).symm _ (block8 (x 0) k 1 hk)
  · exact fun x k hk => piece0_at c t fh0 x2 arg4 harg4 0 2 _ (slot_word t) rfl rfl _ _ rfl rfl rfl _ x k hk (lo (x 1)) (Nat.zero_add _).symm _ (block8 (x 0) k 2 hk)
  · exact fun x k hk => piece0_at c t fh0 x2 arg4 harg4 0 3 _ (slot_word t) rfl rfl _ _ rfl rfl rfl _ x k hk (lo (x 1)) (Nat.zero_add _).symm _ (block8 (x 0) k 3 hk)
  · exact fun x k hk => piece0_at c t fh0 x2 arg4 harg4 0 4 _ (slot_word t) rfl rfl _ _ rfl rfl rfl _ x k hk (lo (x 1)) (Nat.zero_add _).symm _ (block8 (x 0) k 4 hk)
  · exact fun x k hk => piece0_at c t fh0 x2 arg4 harg4 0 5 _ (slot_word t) rfl rfl _ _ rfl rfl rfl _ x k hk (lo (x 1)) (Nat.zero_add _).symm _ (block8 (x 0) k 5 hk)
  · exact fun x k hk => piece0_at c t fh0 x2 arg4 harg4 0 6 _ (slot_word t) rfl rfl _ _ rfl rfl rfl _ x k hk (lo (x 1)) (Nat.zero_add _).symm _ (block8 (x 0) k 6 hk)
  · exact fun x k hk => piece0_at c t fh0 x2 arg4 harg4 0 7 _ (slot_word t) rfl rfl _ _ rfl rfl rfl _ x k hk (lo (x 1)) (Nat.zero_add _).symm _ (block8 (x 0) k 7 hk)
  rw [rows8 arg13.view (half c t fh0 x2 hi)]
  rotate_left
  · exact fun x k hk => piece0_at c t fh0 x2 arg4 harg4 2048 0 _ (slot_word t) rfl rfl _ _ rfl rfl rfl _ x k hk (hi (x 1)) rfl _ (block8 (x 0) k 0 hk)
  · exact fun x k hk => piece0_at c t fh0 x2 arg4 harg4 2048 1 _ (slot_word t) rfl rfl _ _ rfl rfl rfl _ x k hk (hi (x 1)) rfl _ (block8 (x 0) k 1 hk)
  · exact fun x k hk => piece0_at c t fh0 x2 arg4 harg4 2048 2 _ (slot_word t) rfl rfl _ _ rfl rfl rfl _ x k hk (hi (x 1)) rfl _ (block8 (x 0) k 2 hk)
  · exact fun x k hk => piece0_at c t fh0 x2 arg4 harg4 2048 3 _ (slot_word t) rfl rfl _ _ rfl rfl rfl _ x k hk (hi (x 1)) rfl _ (block8 (x 0) k 3 hk)
  · exact fun x k hk => piece0_at c t fh0 x2 arg4 harg4 2048 4 _ (slot_word t) rfl rfl _ _ rfl rfl rfl _ x k hk (hi (x 1)) rfl _ (block8 (x 0) k 4 hk)
  · exact fun x k hk => piece0_at c t fh0 x2 arg4 harg4 2048 5 _ (slot_word t) rfl rfl _ _ rfl rfl rfl _ x k hk (hi (x 1)) rfl _ (block8 (x 0) k 5 hk)
  · exact fun x k hk => piece0_at c t fh0 x2 arg4 harg4 2048 6 _ (slot_word t) rfl rfl _ _ rfl rfl rfl _ x k hk (hi (x 1)) rfl _ (block8 (x 0) k 6 hk)
  · exact fun x k hk => piece0_at c t fh0 x2 arg4 harg4 2048 7 _ (slot_word t) rfl rfl _ _ rfl rfl rfl _ x k hk (hi (x 1)) rfl _ (block8 (x 0) k 7 hk)
  rw [rows16 arg14.view (second c t fh1 x3)]
  rotate_left
  · exact fun x k hk => piece1_at c t fh1 x3 arg6 harg6 0 0 _ (slot_word t) rfl rfl _ _ rfl rfl rfl _ x k hk (x 1) (Nat.zero_add _).symm _ (block16 (x 0) k 0 hk)
  · exact fun x k hk => piece1_at c t fh1 x3 arg6 harg6 0 1 _ (slot_word t) rfl rfl _ _ rfl rfl rfl _ x k hk (x 1) (Nat.zero_add _).symm _ (block16 (x 0) k 1 hk)
  · exact fun x k hk => piece1_at c t fh1 x3 arg6 harg6 0 2 _ (slot_word t) rfl rfl _ _ rfl rfl rfl _ x k hk (x 1) (Nat.zero_add _).symm _ (block16 (x 0) k 2 hk)
  · exact fun x k hk => piece1_at c t fh1 x3 arg6 harg6 0 3 _ (slot_word t) rfl rfl _ _ rfl rfl rfl _ x k hk (x 1) (Nat.zero_add _).symm _ (block16 (x 0) k 3 hk)
  · exact fun x k hk => piece1_at c t fh1 x3 arg6 harg6 0 4 _ (slot_word t) rfl rfl _ _ rfl rfl rfl _ x k hk (x 1) (Nat.zero_add _).symm _ (block16 (x 0) k 4 hk)
  · exact fun x k hk => piece1_at c t fh1 x3 arg6 harg6 0 5 _ (slot_word t) rfl rfl _ _ rfl rfl rfl _ x k hk (x 1) (Nat.zero_add _).symm _ (block16 (x 0) k 5 hk)
  · exact fun x k hk => piece1_at c t fh1 x3 arg6 harg6 0 6 _ (slot_word t) rfl rfl _ _ rfl rfl rfl _ x k hk (x 1) (Nat.zero_add _).symm _ (block16 (x 0) k 6 hk)
  · exact fun x k hk => piece1_at c t fh1 x3 arg6 harg6 0 7 _ (slot_word t) rfl rfl _ _ rfl rfl rfl _ x k hk (x 1) (Nat.zero_add _).symm _ (block16 (x 0) k 7 hk)
  · exact fun x k hk => piece1_at c t fh1 x3 arg6 harg6 0 8 _ (slot_word t) rfl rfl _ _ rfl rfl rfl _ x k hk (x 1) (Nat.zero_add _).symm _ (block16 (x 0) k 8 hk)
  · exact fun x k hk => piece1_at c t fh1 x3 arg6 harg6 0 9 _ (slot_word t) rfl rfl _ _ rfl rfl rfl _ x k hk (x 1) (Nat.zero_add _).symm _ (block16 (x 0) k 9 hk)
  · exact fun x k hk => piece1_at c t fh1 x3 arg6 harg6 0 10 _ (slot_word t) rfl rfl _ _ rfl rfl rfl _ x k hk (x 1) (Nat.zero_add _).symm _ (block16 (x 0) k 10 hk)
  · exact fun x k hk => piece1_at c t fh1 x3 arg6 harg6 0 11 _ (slot_word t) rfl rfl _ _ rfl rfl rfl _ x k hk (x 1) (Nat.zero_add _).symm _ (block16 (x 0) k 11 hk)
  · exact fun x k hk => piece1_at c t fh1 x3 arg6 harg6 0 12 _ (slot_word t) rfl rfl _ _ rfl rfl rfl _ x k hk (x 1) (Nat.zero_add _).symm _ (block16 (x 0) k 12 hk)
  · exact fun x k hk => piece1_at c t fh1 x3 arg6 harg6 0 13 _ (slot_word t) rfl rfl _ _ rfl rfl rfl _ x k hk (x 1) (Nat.zero_add _).symm _ (block16 (x 0) k 13 hk)
  · exact fun x k hk => piece1_at c t fh1 x3 arg6 harg6 0 14 _ (slot_word t) rfl rfl _ _ rfl rfl rfl _ x k hk (x 1) (Nat.zero_add _).symm _ (block16 (x 0) k 14 hk)
  · exact fun x k hk => piece1_at c t fh1 x3 arg6 harg6 0 15 _ (slot_word t) rfl rfl _ _ rfl rfl rfl _ x k hk (x 1) (Nat.zero_add _).symm _ (block16 (x 0) k 15 hk)
  simp only [View.readAt_eq_ld, harg1.read_unread, harg2.read_unread, harg9.read_unread]
  rw [View.ld_unit_zero (by decide) _ x0, View.ld_unit_zero (by decide) _ x1]
  exact congrArg₂ (fun p q => k0_pay1 (gate t x1) (k0_pay55 p q x0 (half c t fh0 x2 lo) (half c t fh0 x2 hi)
      (second c t fh1 x3)) _) (scalar_read t arg7 harg7 x4 ![(Scalar.indexCast (BitVec.ofNat 32 (grid0.coords t 0))).toNat] (expert_word t) _ _)
    (scalar_read t arg8 harg8 x5 ![(Scalar.indexCast (BitVec.ofNat 32 (grid0.coords t 0))).toNat] (expert_word t) _ _)

set_option maxHeartbeats 4000000 in
/-- A point between the first and the last adds its contribution to the block. -/
theorem out_B (c : Dev nD) (t : Fin cfg0.N) (arg1 : Memref sig .tc .vmem S256x1024 .f32) (harg1 : arg1.IsWhole) (arg2 : Memref sig .tc .vmem S256x8 .f32) (harg2 : arg2.IsWhole) (arg4 : Memref sig .tc .vmem S1x8x4096 .f32) (harg4 : arg4.IsWhole) (arg6 : Memref sig .tc .vmem S1x16x1024 .f32) (harg6 : arg6.IsWhole) (arg7 : Memref sig .tc .smem S8 .f32) (harg7 : arg7.IsWhole) (arg8 : Memref sig .tc .smem S8 .f32) (harg8 : arg8.IsWhole) (arg9 : Memref sig .tc .vmem S256x1024 .f32) (harg9 : arg9.IsWhole) (arg12 : Memref sig .tc .vmem S1024x2048 .f32) (harg12 : arg12.IsWhole) (arg13 : Memref sig .tc .vmem S1024x2048 .f32) (harg13 : arg13.IsWhole) (arg14 : Memref sig .tc .vmem S2048x1024 .f32) (harg14 : arg14.IsWhole) (hc0 : ¬cond0_0 (grid0.coords t)) (hc1 : cond0_1 (grid0.coords t))
    (x0 : Vec Ideal S256x1024 .f32) (x1 : Vec Ideal S256x8 .f32) (x2 : Vec Ideal S1x8x4096 .f32) (x3 : Vec Ideal S1x16x1024 .f32) (x4 : Vec Ideal S8 .f32) (x5 : Vec Ideal S8 .f32) (xo6 : Vec Ideal S256x1024 .f32) (fh0 : HbBuf0 (F := Ideal) c hbM0_0) (fh1 : HbBuf0 (F := Ideal) c hbM0_1) :
    out0_B_6 c t arg1 harg1 arg2 harg2 arg4 harg4 arg6 harg6 arg7 harg7 arg8 harg8 arg9 harg9 arg12 harg12 arg13 harg13 arg14 harg14 hc0 hc1 x0 x1 x2 x3 x4 x5 xo6 fh0 fh1
      = step c t x0 x1 x2 x3 x4 x5 fh0 fh1 (xo6) := by
  unfold out0_B_6
  rw [View.read_writes_junk_eq_canon]
  unfold kernelRun0_B
  dsimp only
  sl_unfold_words
  rw [View.canon_unit_zero (by decide)]
  rw [rows8 arg12.view (half c t fh0 x2 lo)]
  rotate_left
  · exact fun x k hk => piece0_at c t fh0 x2 arg4 harg4 0 0 _ (slot_word t) rfl rfl _ _ rfl rfl rfl _ x k hk (lo (x 1)) (Nat.zero_add _).symm _ (block8 (x 0) k 0 hk)
  · exact fun x k hk => piece0_at c t fh0 x2 arg4 harg4 0 1 _ (slot_word t) rfl rfl _ _ rfl rfl rfl _ x k hk (lo (x 1)) (Nat.zero_add _).symm _ (block8 (x 0) k 1 hk)
  · exact fun x k hk => piece0_at c t fh0 x2 arg4 harg4 0 2 _ (slot_word t) rfl rfl _ _ rfl rfl rfl _ x k hk (lo (x 1)) (Nat.zero_add _).symm _ (block8 (x 0) k 2 hk)
  · exact fun x k hk => piece0_at c t fh0 x2 arg4 harg4 0 3 _ (slot_word t) rfl rfl _ _ rfl rfl rfl _ x k hk (lo (x 1)) (Nat.zero_add _).symm _ (block8 (x 0) k 3 hk)
  · exact fun x k hk => piece0_at c t fh0 x2 arg4 harg4 0 4 _ (slot_word t) rfl rfl _ _ rfl rfl rfl _ x k hk (lo (x 1)) (Nat.zero_add _).symm _ (block8 (x 0) k 4 hk)
  · exact fun x k hk => piece0_at c t fh0 x2 arg4 harg4 0 5 _ (slot_word t) rfl rfl _ _ rfl rfl rfl _ x k hk (lo (x 1)) (Nat.zero_add _).symm _ (block8 (x 0) k 5 hk)
  · exact fun x k hk => piece0_at c t fh0 x2 arg4 harg4 0 6 _ (slot_word t) rfl rfl _ _ rfl rfl rfl _ x k hk (lo (x 1)) (Nat.zero_add _).symm _ (block8 (x 0) k 6 hk)
  · exact fun x k hk => piece0_at c t fh0 x2 arg4 harg4 0 7 _ (slot_word t) rfl rfl _ _ rfl rfl rfl _ x k hk (lo (x 1)) (Nat.zero_add _).symm _ (block8 (x 0) k 7 hk)
  rw [rows8 arg13.view (half c t fh0 x2 hi)]
  rotate_left
  · exact fun x k hk => piece0_at c t fh0 x2 arg4 harg4 2048 0 _ (slot_word t) rfl rfl _ _ rfl rfl rfl _ x k hk (hi (x 1)) rfl _ (block8 (x 0) k 0 hk)
  · exact fun x k hk => piece0_at c t fh0 x2 arg4 harg4 2048 1 _ (slot_word t) rfl rfl _ _ rfl rfl rfl _ x k hk (hi (x 1)) rfl _ (block8 (x 0) k 1 hk)
  · exact fun x k hk => piece0_at c t fh0 x2 arg4 harg4 2048 2 _ (slot_word t) rfl rfl _ _ rfl rfl rfl _ x k hk (hi (x 1)) rfl _ (block8 (x 0) k 2 hk)
  · exact fun x k hk => piece0_at c t fh0 x2 arg4 harg4 2048 3 _ (slot_word t) rfl rfl _ _ rfl rfl rfl _ x k hk (hi (x 1)) rfl _ (block8 (x 0) k 3 hk)
  · exact fun x k hk => piece0_at c t fh0 x2 arg4 harg4 2048 4 _ (slot_word t) rfl rfl _ _ rfl rfl rfl _ x k hk (hi (x 1)) rfl _ (block8 (x 0) k 4 hk)
  · exact fun x k hk => piece0_at c t fh0 x2 arg4 harg4 2048 5 _ (slot_word t) rfl rfl _ _ rfl rfl rfl _ x k hk (hi (x 1)) rfl _ (block8 (x 0) k 5 hk)
  · exact fun x k hk => piece0_at c t fh0 x2 arg4 harg4 2048 6 _ (slot_word t) rfl rfl _ _ rfl rfl rfl _ x k hk (hi (x 1)) rfl _ (block8 (x 0) k 6 hk)
  · exact fun x k hk => piece0_at c t fh0 x2 arg4 harg4 2048 7 _ (slot_word t) rfl rfl _ _ rfl rfl rfl _ x k hk (hi (x 1)) rfl _ (block8 (x 0) k 7 hk)
  rw [rows16 arg14.view (second c t fh1 x3)]
  rotate_left
  · exact fun x k hk => piece1_at c t fh1 x3 arg6 harg6 0 0 _ (slot_word t) rfl rfl _ _ rfl rfl rfl _ x k hk (x 1) (Nat.zero_add _).symm _ (block16 (x 0) k 0 hk)
  · exact fun x k hk => piece1_at c t fh1 x3 arg6 harg6 0 1 _ (slot_word t) rfl rfl _ _ rfl rfl rfl _ x k hk (x 1) (Nat.zero_add _).symm _ (block16 (x 0) k 1 hk)
  · exact fun x k hk => piece1_at c t fh1 x3 arg6 harg6 0 2 _ (slot_word t) rfl rfl _ _ rfl rfl rfl _ x k hk (x 1) (Nat.zero_add _).symm _ (block16 (x 0) k 2 hk)
  · exact fun x k hk => piece1_at c t fh1 x3 arg6 harg6 0 3 _ (slot_word t) rfl rfl _ _ rfl rfl rfl _ x k hk (x 1) (Nat.zero_add _).symm _ (block16 (x 0) k 3 hk)
  · exact fun x k hk => piece1_at c t fh1 x3 arg6 harg6 0 4 _ (slot_word t) rfl rfl _ _ rfl rfl rfl _ x k hk (x 1) (Nat.zero_add _).symm _ (block16 (x 0) k 4 hk)
  · exact fun x k hk => piece1_at c t fh1 x3 arg6 harg6 0 5 _ (slot_word t) rfl rfl _ _ rfl rfl rfl _ x k hk (x 1) (Nat.zero_add _).symm _ (block16 (x 0) k 5 hk)
  · exact fun x k hk => piece1_at c t fh1 x3 arg6 harg6 0 6 _ (slot_word t) rfl rfl _ _ rfl rfl rfl _ x k hk (x 1) (Nat.zero_add _).symm _ (block16 (x 0) k 6 hk)
  · exact fun x k hk => piece1_at c t fh1 x3 arg6 harg6 0 7 _ (slot_word t) rfl rfl _ _ rfl rfl rfl _ x k hk (x 1) (Nat.zero_add _).symm _ (block16 (x 0) k 7 hk)
  · exact fun x k hk => piece1_at c t fh1 x3 arg6 harg6 0 8 _ (slot_word t) rfl rfl _ _ rfl rfl rfl _ x k hk (x 1) (Nat.zero_add _).symm _ (block16 (x 0) k 8 hk)
  · exact fun x k hk => piece1_at c t fh1 x3 arg6 harg6 0 9 _ (slot_word t) rfl rfl _ _ rfl rfl rfl _ x k hk (x 1) (Nat.zero_add _).symm _ (block16 (x 0) k 9 hk)
  · exact fun x k hk => piece1_at c t fh1 x3 arg6 harg6 0 10 _ (slot_word t) rfl rfl _ _ rfl rfl rfl _ x k hk (x 1) (Nat.zero_add _).symm _ (block16 (x 0) k 10 hk)
  · exact fun x k hk => piece1_at c t fh1 x3 arg6 harg6 0 11 _ (slot_word t) rfl rfl _ _ rfl rfl rfl _ x k hk (x 1) (Nat.zero_add _).symm _ (block16 (x 0) k 11 hk)
  · exact fun x k hk => piece1_at c t fh1 x3 arg6 harg6 0 12 _ (slot_word t) rfl rfl _ _ rfl rfl rfl _ x k hk (x 1) (Nat.zero_add _).symm _ (block16 (x 0) k 12 hk)
  · exact fun x k hk => piece1_at c t fh1 x3 arg6 harg6 0 13 _ (slot_word t) rfl rfl _ _ rfl rfl rfl _ x k hk (x 1) (Nat.zero_add _).symm _ (block16 (x 0) k 13 hk)
  · exact fun x k hk => piece1_at c t fh1 x3 arg6 harg6 0 14 _ (slot_word t) rfl rfl _ _ rfl rfl rfl _ x k hk (x 1) (Nat.zero_add _).symm _ (block16 (x 0) k 14 hk)
  · exact fun x k hk => piece1_at c t fh1 x3 arg6 harg6 0 15 _ (slot_word t) rfl rfl _ _ rfl rfl rfl _ x k hk (x 1) (Nat.zero_add _).symm _ (block16 (x 0) k 15 hk)
  simp only [View.readAt_eq_ld, harg1.read_unread, harg2.read_unread, harg9.read_unread]
  rw [View.ld_unit_zero (by decide) _ x0, View.ld_unit_zero (by decide) _ x1, View.ld_unit_zero (by decide) _ xo6]
  exact congrArg₂ (fun p q => k0_pay1 (gate t x1) (k0_pay55 p q x0 (half c t fh0 x2 lo) (half c t fh0 x2 hi)
      (second c t fh1 x3)) _) (scalar_read t arg7 harg7 x4 ![(Scalar.indexCast (BitVec.ofNat 32 (grid0.coords t 0))).toNat] (expert_word t) _ _)
    (scalar_read t arg8 harg8 x5 ![(Scalar.indexCast (BitVec.ofNat 32 (grid0.coords t 0))).toNat] (expert_word t) _ _)

set_option maxHeartbeats 4000000 in
/-- The last point adds its contribution to the block. -/
theorem out_C (c : Dev nD) (t : Fin cfg0.N) (arg1 : Memref sig .tc .vmem S256x1024 .f32) (harg1 : arg1.IsWhole) (arg2 : Memref sig .tc .vmem S256x8 .f32) (harg2 : arg2.IsWhole) (arg4 : Memref sig .tc .vmem S1x8x4096 .f32) (harg4 : arg4.IsWhole) (arg6 : Memref sig .tc .vmem S1x16x1024 .f32) (harg6 : arg6.IsWhole) (arg7 : Memref sig .tc .smem S8 .f32) (harg7 : arg7.IsWhole) (arg8 : Memref sig .tc .smem S8 .f32) (harg8 : arg8.IsWhole) (arg9 : Memref sig .tc .vmem S256x1024 .f32) (harg9 : arg9.IsWhole) (arg12 : Memref sig .tc .vmem S1024x2048 .f32) (harg12 : arg12.IsWhole) (arg13 : Memref sig .tc .vmem S1024x2048 .f32) (harg13 : arg13.IsWhole) (arg14 : Memref sig .tc .vmem S2048x1024 .f32) (harg14 : arg14.IsWhole) (hc0 : ¬cond0_0 (grid0.coords t)) (hc1 : ¬cond0_1 (grid0.coords t))
    (x0 : Vec Ideal S256x1024 .f32) (x1 : Vec Ideal S256x8 .f32) (x2 : Vec Ideal S1x8x4096 .f32) (x3 : Vec Ideal S1x16x1024 .f32) (x4 : Vec Ideal S8 .f32) (x5 : Vec Ideal S8 .f32) (xo6 : Vec Ideal S256x1024 .f32) (fh0 : HbBuf0 (F := Ideal) c hbM0_0) (fh1 : HbBuf0 (F := Ideal) c hbM0_1) :
    out0_C_6 c t arg1 harg1 arg2 harg2 arg4 harg4 arg6 harg6 arg7 harg7 arg8 harg8 arg9 harg9 arg12 harg12 arg13 harg13 arg14 harg14 hc0 hc1 x0 x1 x2 x3 x4 x5 xo6 fh0 fh1
      = step c t x0 x1 x2 x3 x4 x5 fh0 fh1 (xo6) := by
  unfold out0_C_6
  rw [View.read_writes_junk_eq_canon]
  unfold kernelRun0_C
  dsimp only
  sl_unfold_words
  rw [View.canon_unit_zero (by decide)]
  rw [rows8 arg12.view (half c t fh0 x2 lo)]
  rotate_left
  · exact fun x k hk => piece0_at c t fh0 x2 arg4 harg4 0 0 _ (slot_word t) rfl rfl _ _ rfl rfl rfl _ x k hk (lo (x 1)) (Nat.zero_add _).symm _ (block8 (x 0) k 0 hk)
  · exact fun x k hk => piece0_at c t fh0 x2 arg4 harg4 0 1 _ (slot_word t) rfl rfl _ _ rfl rfl rfl _ x k hk (lo (x 1)) (Nat.zero_add _).symm _ (block8 (x 0) k 1 hk)
  · exact fun x k hk => piece0_at c t fh0 x2 arg4 harg4 0 2 _ (slot_word t) rfl rfl _ _ rfl rfl rfl _ x k hk (lo (x 1)) (Nat.zero_add _).symm _ (block8 (x 0) k 2 hk)
  · exact fun x k hk => piece0_at c t fh0 x2 arg4 harg4 0 3 _ (slot_word t) rfl rfl _ _ rfl rfl rfl _ x k hk (lo (x 1)) (Nat.zero_add _).symm _ (block8 (x 0) k 3 hk)
  · exact fun x k hk => piece0_at c t fh0 x2 arg4 harg4 0 4 _ (slot_word t) rfl rfl _ _ rfl rfl rfl _ x k hk (lo (x 1)) (Nat.zero_add _).symm _ (block8 (x 0) k 4 hk)
  · exact fun x k hk => piece0_at c t fh0 x2 arg4 harg4 0 5 _ (slot_word t) rfl rfl _ _ rfl rfl rfl _ x k hk (lo (x 1)) (Nat.zero_add _).symm _ (block8 (x 0) k 5 hk)
  · exact fun x k hk => piece0_at c t fh0 x2 arg4 harg4 0 6 _ (slot_word t) rfl rfl _ _ rfl rfl rfl _ x k hk (lo (x 1)) (Nat.zero_add _).symm _ (block8 (x 0) k 6 hk)
  · exact fun x k hk => piece0_at c t fh0 x2 arg4 harg4 0 7 _ (slot_word t) rfl rfl _ _ rfl rfl rfl _ x k hk (lo (x 1)) (Nat.zero_add _).symm _ (block8 (x 0) k 7 hk)
  rw [rows8 arg13.view (half c t fh0 x2 hi)]
  rotate_left
  · exact fun x k hk => piece0_at c t fh0 x2 arg4 harg4 2048 0 _ (slot_word t) rfl rfl _ _ rfl rfl rfl _ x k hk (hi (x 1)) rfl _ (block8 (x 0) k 0 hk)
  · exact fun x k hk => piece0_at c t fh0 x2 arg4 harg4 2048 1 _ (slot_word t) rfl rfl _ _ rfl rfl rfl _ x k hk (hi (x 1)) rfl _ (block8 (x 0) k 1 hk)
  · exact fun x k hk => piece0_at c t fh0 x2 arg4 harg4 2048 2 _ (slot_word t) rfl rfl _ _ rfl rfl rfl _ x k hk (hi (x 1)) rfl _ (block8 (x 0) k 2 hk)
  · exact fun x k hk => piece0_at c t fh0 x2 arg4 harg4 2048 3 _ (slot_word t) rfl rfl _ _ rfl rfl rfl _ x k hk (hi (x 1)) rfl _ (block8 (x 0) k 3 hk)
  · exact fun x k hk => piece0_at c t fh0 x2 arg4 harg4 2048 4 _ (slot_word t) rfl rfl _ _ rfl rfl rfl _ x k hk (hi (x 1)) rfl _ (block8 (x 0) k 4 hk)
  · exact fun x k hk => piece0_at c t fh0 x2 arg4 harg4 2048 5 _ (slot_word t) rfl rfl _ _ rfl rfl rfl _ x k hk (hi (x 1)) rfl _ (block8 (x 0) k 5 hk)
  · exact fun x k hk => piece0_at c t fh0 x2 arg4 harg4 2048 6 _ (slot_word t) rfl rfl _ _ rfl rfl rfl _ x k hk (hi (x 1)) rfl _ (block8 (x 0) k 6 hk)
  · exact fun x k hk => piece0_at c t fh0 x2 arg4 harg4 2048 7 _ (slot_word t) rfl rfl _ _ rfl rfl rfl _ x k hk (hi (x 1)) rfl _ (block8 (x 0) k 7 hk)
  rw [rows16 arg14.view (second c t fh1 x3)]
  rotate_left
  · exact fun x k hk => piece1_at c t fh1 x3 arg6 harg6 0 0 _ (slot_word t) rfl rfl _ _ rfl rfl rfl _ x k hk (x 1) (Nat.zero_add _).symm _ (block16 (x 0) k 0 hk)
  · exact fun x k hk => piece1_at c t fh1 x3 arg6 harg6 0 1 _ (slot_word t) rfl rfl _ _ rfl rfl rfl _ x k hk (x 1) (Nat.zero_add _).symm _ (block16 (x 0) k 1 hk)
  · exact fun x k hk => piece1_at c t fh1 x3 arg6 harg6 0 2 _ (slot_word t) rfl rfl _ _ rfl rfl rfl _ x k hk (x 1) (Nat.zero_add _).symm _ (block16 (x 0) k 2 hk)
  · exact fun x k hk => piece1_at c t fh1 x3 arg6 harg6 0 3 _ (slot_word t) rfl rfl _ _ rfl rfl rfl _ x k hk (x 1) (Nat.zero_add _).symm _ (block16 (x 0) k 3 hk)
  · exact fun x k hk => piece1_at c t fh1 x3 arg6 harg6 0 4 _ (slot_word t) rfl rfl _ _ rfl rfl rfl _ x k hk (x 1) (Nat.zero_add _).symm _ (block16 (x 0) k 4 hk)
  · exact fun x k hk => piece1_at c t fh1 x3 arg6 harg6 0 5 _ (slot_word t) rfl rfl _ _ rfl rfl rfl _ x k hk (x 1) (Nat.zero_add _).symm _ (block16 (x 0) k 5 hk)
  · exact fun x k hk => piece1_at c t fh1 x3 arg6 harg6 0 6 _ (slot_word t) rfl rfl _ _ rfl rfl rfl _ x k hk (x 1) (Nat.zero_add _).symm _ (block16 (x 0) k 6 hk)
  · exact fun x k hk => piece1_at c t fh1 x3 arg6 harg6 0 7 _ (slot_word t) rfl rfl _ _ rfl rfl rfl _ x k hk (x 1) (Nat.zero_add _).symm _ (block16 (x 0) k 7 hk)
  · exact fun x k hk => piece1_at c t fh1 x3 arg6 harg6 0 8 _ (slot_word t) rfl rfl _ _ rfl rfl rfl _ x k hk (x 1) (Nat.zero_add _).symm _ (block16 (x 0) k 8 hk)
  · exact fun x k hk => piece1_at c t fh1 x3 arg6 harg6 0 9 _ (slot_word t) rfl rfl _ _ rfl rfl rfl _ x k hk (x 1) (Nat.zero_add _).symm _ (block16 (x 0) k 9 hk)
  · exact fun x k hk => piece1_at c t fh1 x3 arg6 harg6 0 10 _ (slot_word t) rfl rfl _ _ rfl rfl rfl _ x k hk (x 1) (Nat.zero_add _).symm _ (block16 (x 0) k 10 hk)
  · exact fun x k hk => piece1_at c t fh1 x3 arg6 harg6 0 11 _ (slot_word t) rfl rfl _ _ rfl rfl rfl _ x k hk (x 1) (Nat.zero_add _).symm _ (block16 (x 0) k 11 hk)
  · exact fun x k hk => piece1_at c t fh1 x3 arg6 harg6 0 12 _ (slot_word t) rfl rfl _ _ rfl rfl rfl _ x k hk (x 1) (Nat.zero_add _).symm _ (block16 (x 0) k 12 hk)
  · exact fun x k hk => piece1_at c t fh1 x3 arg6 harg6 0 13 _ (slot_word t) rfl rfl _ _ rfl rfl rfl _ x k hk (x 1) (Nat.zero_add _).symm _ (block16 (x 0) k 13 hk)
  · exact fun x k hk => piece1_at c t fh1 x3 arg6 harg6 0 14 _ (slot_word t) rfl rfl _ _ rfl rfl rfl _ x k hk (x 1) (Nat.zero_add _).symm _ (block16 (x 0) k 14 hk)
  · exact fun x k hk => piece1_at c t fh1 x3 arg6 harg6 0 15 _ (slot_word t) rfl rfl _ _ rfl rfl rfl _ x k hk (x 1) (Nat.zero_add _).symm _ (block16 (x 0) k 15 hk)
  simp only [View.readAt_eq_ld, harg1.read_unread, harg2.read_unread, harg9.read_unread]
  rw [View.ld_unit_zero (by decide) _ x0, View.ld_unit_zero (by decide) _ x1, View.ld_unit_zero (by decide) _ xo6]
  exact congrArg₂ (fun p q => k0_pay1 (gate t x1) (k0_pay55 p q x0 (half c t fh0 x2 lo) (half c t fh0 x2 hi)
      (second c t fh1 x3)) _) (scalar_read t arg7 harg7 x4 ![(Scalar.indexCast (BitVec.ofNat 32 (grid0.coords t 0))).toNat] (expert_word t) _ _)
    (scalar_read t arg8 harg8 x5 ![(Scalar.indexCast (BitVec.ofNat 32 (grid0.coords t 0))).toNat] (expert_word t) _ _)

end Cert.KernelIdeal.Point
-- ==== Proof.KernelArray.lean ====
module

public import proofs.«01_k».proof.Proof.Point
public import proofs.«01_k».proof.Proof.Gen.KernelIdeal.Value
public import Idealize.ShloMosaic.Lib.Pipeline.Value

@[expose] public section
noncomputable section
namespace Cert.KernelIdeal.Point
open Cert.KernelIdeal Cert.KernelIdeal.Gen Cert.Moe
open Idealize.ShloMosaic Idealize.ShloMosaic.TcCoe Idealize.ShloMosaic.Tactic Idealize.SL.Sem
open Idealize.ShloMosaic.Pipeline (Dat)
set_option maxRecDepth 16384

/-- The grid point that handles expert `e`. -/
def point (e : Fin 8) : Fin cfg0.N := ⟨e.val, lt_of_lt_of_eq e.isLt (show cfg0.N = 8 from N_0).symm⟩

/-- The kernel's routing weight of expert `e` for row `r`. -/
def gateOf (x1 : Vec Ideal S256x8 .f32) (e : Fin 8) (r : Fin 256) : EReal := gate (point e) x1 (ix2 r 0)

/-- Adding a block of contributions, each row scaled by its weight, at an element. -/
theorem add_at (g : Vec Ideal S256x1 .f32) (b d : Vec Ideal S256x1024 .f32) (r : Fin 256) (l : Fin 1024) :
    k0_pay1 g b d (ix2 r l) = d (ix2 r l) + b (ix2 r l) * g (ix2 r 0) := by
  pointwise [k0_pay1]

/-- The expert's block at an element, from the weights already dequantized. -/
theorem block_at (p13 p2 : Elt Ideal .f32) (hs : Vec Ideal S256x1024 .f32) (w1 w3 : Vec Ideal S1024x2048 .f32)
    (w2 : Vec Ideal S2048x1024 .f32) (r : Fin 256) (l : Fin 1024) :
    k0_pay55 p13 p2 hs w1 w3 w2 (ix2 r l)
      = layer p2 (fun j => gated (layer p13 (fun k => hs (ix2 r k)) fun k => w1 (ix2 k j))
          (layer p13 (fun k => hs (ix2 r k)) fun k => w3 (ix2 k j))) (fun j => w2 (ix2 j l)) := by
  pointwise [k0_pay55]
  rfl

/-- A grid point's result at an element: the contents before plus the expert's output scaled by its weight. -/
theorem step_at (c : Dev nD) (t : Fin cfg0.N) (e : Fin 8) (he : t.val = e.val) (x0 : Vec Ideal S256x1024 .f32)
    (x1 : Vec Ideal S256x8 .f32)
    (x2 : Vec Ideal S1x8x4096 .f32) (x3 : Vec Ideal S1x16x1024 .f32) (x4 x5 : Vec Ideal S8 .f32)
    (fh0 : HbBuf0 (F := Ideal) c hbM0_0) (fh1 : HbBuf0 (F := Ideal) c hbM0_1) (acc : Vec Ideal S256x1024 .f32)
    (W13 : Vec Ideal S8x1024x4096 .i8) (W2 : Vec Ideal S8x2048x1024 .i8) (S13 : Vec Ideal S8x8x4096 .f32)
    (S2 : Vec Ideal S8x16x1024 .f32)
    (h0 : ∀ i, hbM0_0.view.read (Elt Ideal) fh0 i = W13 i) (h1 : ∀ i, hbM0_1.view.read (Elt Ideal) fh1 i = W2 i)
    (h2 : ∀ b j, x2 (ix3 0 b j) = S13 (ix3 e b j)) (h3 : ∀ b j, x3 (ix3 0 b j) = S2 (ix3 e b j))
    (r : Fin 256) (l : Fin 1024) :
    step c t x0 x1 x2 x3 x4 x5 fh0 fh1 acc (ix2 r l)
      = acc (ix2 r l) + expertAt x0 W13 W2 S13 S2 x4 x5 e r l * gateOf x1 e r := by
  have hk : Ring.bk 8 t.val = e := Fin.ext (by show t.val % 8 = e.val; rw [he]; exact Nat.mod_eq_of_lt e.isLt)
  have ht : t = point e := Fin.ext he
  subst ht
  have e1 : ∀ (col : Fin 2048 → Fin 4096) (k : Fin 1024) (j : Fin 2048), half c (point e) fh0 x2 col (ix2 k j)
      = deq (W13 (ix3 e k (col j))) (S13 (ix3 e (rowBlock8 k) (col j))) := fun col k j => by
    show deq (hbM0_0.view.read (Elt Ideal) fh0 (ix3 (Ring.bk 8 (point e).val) k (col j))) (x2 (ix3 0 (rowBlock8 k) (col j))) = _
    rw [hk, h0, h2]
  have e2 : ∀ (k : Fin 2048) (j : Fin 1024), second c (point e) fh1 x3 (ix2 k j)
      = deq (W2 (ix3 e k j)) (S2 (ix3 e (rowBlock16 k) j)) := fun k j => by
    show deq (hbM0_1.view.read (Elt Ideal) fh1 (ix3 (Ring.bk 8 (point e).val) k j)) (x3 (ix3 0 (rowBlock16 k) j)) = _
    rw [hk, h1, h3]
  unfold step
  rw [add_at, block_at]
  simp only [e1, e2, hk]
  rfl

variable (m : (ℓ : Loc nD τ sig) → Buf (Elt Ideal) ℓ)

/-- The block of activations every point reads is the whole array. -/
theorem iblk0 (c : Dev nD) (t : Fin cfg0.N) : (iblk m c 0 t : Vec Ideal S256x1024 .f32) = V m c main_arg0 := by
  have hi : win0_0.index t 0 = 0 ∧ win0_0.index t 1 = 0 := by
    rcases fin_N0 t with rfl|rfl|rfl|rfl|rfl|rfl|rfl|rfl <;> decide
  funext j
  unfold iblk
  rw [View.read_apply]
  show V m c main_arg0 _ = V m c main_arg0 j
  congr 1; funext a; apply Fin.ext
  match a with
  | ⟨0, _⟩ => show win0_0.index t 0 * 256 + 1 * (j 0).val = (j 0).val; rw [hi.1]; omega
  | ⟨1, _⟩ => show win0_0.index t 1 * 1024 + 1 * (j 1).val = (j 1).val; rw [hi.2]; omega

/-- The block of logits every point reads is the whole array. -/
theorem iblk1 (c : Dev nD) (t : Fin cfg0.N) : (iblk m c 1 t : Vec Ideal S256x8 .f32) = V m c main_arg1 := by
  have hi : win0_1.index t 0 = 0 ∧ win0_1.index t 1 = 0 := by
    rcases fin_N0 t with rfl|rfl|rfl|rfl|rfl|rfl|rfl|rfl <;> decide
  funext j
  unfold iblk
  rw [View.read_apply]
  show V m c main_arg1 _ = V m c main_arg1 j
  congr 1; funext a; apply Fin.ext
  match a with
  | ⟨0, _⟩ => show win0_1.index t 0 * 256 + 1 * (j 0).val = (j 0).val; rw [hi.1]; omega
  | ⟨1, _⟩ => show win0_1.index t 1 * 8 + 1 * (j 1).val = (j 1).val; rw [hi.2]; omega

/-- The block of the first layer's scales a point reads is its own expert's. -/
theorem iblk2 (c : Dev nD) (t : Fin cfg0.N) (e : Fin 8) (he : t.val = e.val) (b : Fin 8) (l : Fin 4096) :
    (iblk m c 2 t : Vec Ideal S1x8x4096 .f32) (ix3 0 b l) = V m c main_arg4 (ix3 e b l) := by
  have hi : win0_2.index t 0 = t.val ∧ win0_2.index t 1 = 0 ∧ win0_2.index t 2 = 0 := by
    rcases fin_N0 t with rfl|rfl|rfl|rfl|rfl|rfl|rfl|rfl <;> decide
  unfold iblk
  rw [View.read_apply]
  show V m c main_arg4 _ = V m c main_arg4 _
  congr 1; funext a; apply Fin.ext
  match a with
  | ⟨0, _⟩ => show win0_2.index t 0 * 1 + 1 * 0 = e.val; rw [hi.1]; omega
  | ⟨1, _⟩ => show win0_2.index t 1 * 8 + 1 * b.val = b.val; rw [hi.2.1]; omega
  | ⟨2, _⟩ => show win0_2.index t 2 * 4096 + 1 * l.val = l.val; rw [hi.2.2]; omega

/-- The block of the second layer's scales a point reads is its own expert's. -/
theorem iblk3 (c : Dev nD) (t : Fin cfg0.N) (e : Fin 8) (he : t.val = e.val) (b : Fin 16) (l : Fin 1024) :
    (iblk m c 3 t : Vec Ideal S1x16x1024 .f32) (ix3 0 b l) = V m c main_arg5 (ix3 e b l) := by
  have hi : win0_3.index t 0 = t.val ∧ win0_3.index t 1 = 0 ∧ win0_3.index t 2 = 0 := by
    rcases fin_N0 t with rfl|rfl|rfl|rfl|rfl|rfl|rfl|rfl <;> decide
  unfold iblk
  rw [View.read_apply]
  show V m c main_arg5 _ = V m c main_arg5 _
  congr 1; funext a; apply Fin.ext
  match a with
  | ⟨0, _⟩ => show win0_3.index t 0 * 1 + 1 * 0 = e.val; rw [hi.1]; omega
  | ⟨1, _⟩ => show win0_3.index t 1 * 16 + 1 * b.val = b.val; rw [hi.2.1]; omega
  | ⟨2, _⟩ => show win0_3.index t 2 * 1024 + 1 * l.val = l.val; rw [hi.2.2]; omega

/-- The table of the first layer's activation scales every point reads is the whole array. -/
theorem iblk4 (c : Dev nD) (t : Fin cfg0.N) : (iblk m c 4 t : Vec Ideal S8 .f32) = V m c main_arg6 := by
  have hi : win0_4.index t 0 = 0 := by
    rcases fin_N0 t with rfl|rfl|rfl|rfl|rfl|rfl|rfl|rfl <;> decide
  funext j
  unfold iblk
  rw [View.read_apply]
  show V m c main_arg6 _ = V m c main_arg6 j
  congr 1; funext a; apply Fin.ext
  match a with
  | ⟨0, _⟩ => show win0_4.index t 0 * 8 + 1 * (j 0).val = (j 0).val; rw [hi]; omega

/-- The table of the second layer's activation scales every point reads is the whole array. -/
theorem iblk5 (c : Dev nD) (t : Fin cfg0.N) : (iblk m c 5 t : Vec Ideal S8 .f32) = V m c main_arg7 := by
  have hi : win0_5.index t 0 = 0 := by
    rcases fin_N0 t with rfl|rfl|rfl|rfl|rfl|rfl|rfl|rfl <;> decide
  funext j
  unfold iblk
  rw [View.read_apply]
  show V m c main_arg7 _ = V m c main_arg7 j
  congr 1; funext a; apply Fin.ext
  match a with
  | ⟨0, _⟩ => show win0_5.index t 0 * 8 + 1 * (j 0).val = (j 0).val; rw [hi]; omega

/-- What expert `e` contributes to element `(r, l)`. -/
def term (c : Dev nD) (r : Fin 256) (l : Fin 1024) (e : Fin 8) : EReal :=
  expertAt (V m c main_arg0) (V m c main_arg2) (V m c main_arg3) (V m c main_arg4) (V m c main_arg5) (V m c main_arg6)
    (V m c main_arg7) e r l * gateOf (V m c main_arg1) e r

/-- A point's step over the region's own arrays, at an element. -/
theorem step_term (c : Dev nD) (t : Fin cfg0.N) (acc : Vec Ideal S256x1024 .f32) (r : Fin 256) (l : Fin 1024) :
    step c t (iblk m c 0 t) (iblk m c 1 t) (iblk m c 2 t) (iblk m c 3 t) (iblk m c 4 t) (iblk m c 5 t)
        (V m c main_arg2) (V m c main_arg3) acc (ix2 r l)
      = acc (ix2 r l) + term m c r l (Fin.ofNat 8 t.val) := by
  have hN : t.val < 8 := lt_of_lt_of_eq t.isLt (show cfg0.N = 8 from N_0)
  have he : t.val = (Fin.ofNat 8 t.val).val := (Nat.mod_eq_of_lt hN).symm
  rw [step_at c t (Fin.ofNat 8 t.val) he _ _ _ _ _ _ _ _ acc (V m c main_arg2) (V m c main_arg3) (V m c main_arg4)
    (V m c main_arg5) (fun _ => rfl) (fun _ => rfl) (iblk2 m c t _ he) (iblk3 m c t _ he), iblk0, iblk1, iblk4, iblk5]
  rfl

/-- After point `n` the output block holds, at every element, the first `n + 1` experts' contributions added in order. -/
theorem outsAt_eq (c : Dev nD) : ∀ (n : ℕ) (h : n < cfg0.N) (r : Fin 256) (l : Fin 1024),
    (outsAt0 m c n h : Vec Ideal S256x1024 .f32) (ix2 r l) = total (term m c r l) (n + 1)
  | 0, h, r, l => by
    rw [outsAt0_A m c ⟨0, h⟩ rfl (by show 0 < 7; decide), out_A, step_term]
    have hz : k0_pay2 (F := Ideal) (ix2 r l) = 0 := by pointwise [k0_pay2]
    rw [hz]
    rfl
  | n + 1, h, r, l => by
    have hN : cfg0.N = 8 := N_0
    have h0 : ¬(⟨n + 1, h⟩ : Fin cfg0.N).val % 8 = 0 := by dsimp only; omega
    by_cases h1 : (⟨n + 1, h⟩ : Fin cfg0.N).val < 7
    · rw [outsAt0_B m c ⟨n + 1, h⟩ h0 h1, out_B, step_term]
      show (outsAt0 m c n _ : Vec Ideal S256x1024 .f32) (ix2 r l) + _ = total (term m c r l) (n + 1) + _
      rw [outsAt_eq c n]
    · rw [outsAt0_C m c ⟨n + 1, h⟩ h0 h1, out_C, step_term]
      show (outsAt0 m c n _ : Vec Ideal S256x1024 .f32) (ix2 r l) + _ = total (term m c r l) (n + 1) + _
      rw [outsAt_eq c n]

/-- The kernel's result: at every element the eight experts' contributions added in order. -/
def result (c : Dev nD) : Buf (Elt Ideal) ((c : Thread nD τ).loc main_v0) :=
  fun i : S256x1024.Idx => total (term m c (i 0) (i 1)) 8

/-- What the last point leaves in the output block is the result. -/
theorem last_eq (c : Dev nD) : outsAt0 m c t0_7.val t0_7.isLt = result m c := by
  funext i
  exact (congrArg (outsAt0 m c t0_7.val t0_7.isLt : Vec Ideal S256x1024 .f32) (eq_ix2 (i : S256x1024.Idx))).trans
    (outsAt_eq m c 7 _ _ _)

/-- The one write-back puts the result there. -/
theorem flushed_eq (c : Dev nD) (t : Fin cfg0.N) (hf : (cfg0.win 6).flush t = true) :
    (dats m 0 c).flushed 6 t = ((cfg0.win 6).blk t).view.read (Elt Ideal) (result m c) := by
  have hN : t.val < 8 := lt_of_lt_of_eq t.isLt (show cfg0.N = 8 from N_0)
  have h7 : t.val = 7 := by have := (flush0_6 t).mp hf; omega
  obtain rfl : t = t0_7 := Fin.ext h7
  show (cfg0.win 6).cut (grid0.coords t0_7) ((dats m 0 c).after 6 t0_7) = _
  rw [after0_6, last_eq]
  have hz' : (fun a => win0_6.index t0_7 a * main_v0.ty.shape.size a) = fun _ => 0 :=
    funext fun a => by fin_cases a <;> decide
  exact (Memref.read_access_unit_zero (Elt Ideal) main_v0 hz' (fun a => by rw [congrFun hz' a]; simp) (result m c)).symm

/-- The kernel's result array after the run. -/
theorem final (c : Dev nD) : (dats m 0 c).arrAt 6 cfg0.N = result m c :=
  (dats m 0 c).arrAt_eq_of_cover 6 (result m c) (flushed_eq m c) fun i => ⟨t0_7, (flush0_6 t0_7).mpr rfl, by
    show i ∈ ((View.whole main_v0).slice (win0_6.rect t0_7)).set
    rw [View.set_slice_whole, Rect.mem_set_unit]
    intro a
    have hi0 : (i 0 : Nat) < 256 := (i 0).isLt
    have hi1 : (i 1 : Nat) < 1024 := (i 1).isLt
    match a with
    | ⟨0, _⟩ =>
      show win0_6.index t0_7 0 * win0_6.size 0 ≤ (i 0 : Nat) ∧ (i 0 : Nat) < win0_6.index t0_7 0 * win0_6.size 0 + win0_6.xsize (grid0.coords t0_7) 0
      rw [show win0_6.index t0_7 0 * win0_6.size 0 = 0 from by decide +kernel, show win0_6.xsize (grid0.coords t0_7) 0 = 256 from by decide +kernel]
      omega
    | ⟨1, _⟩ =>
      show win0_6.index t0_7 1 * win0_6.size 1 ≤ (i 1 : Nat) ∧ (i 1 : Nat) < win0_6.index t0_7 1 * win0_6.size 1 + win0_6.xsize (grid0.coords t0_7) 1
      rw [show win0_6.index t0_7 1 * win0_6.size 1 = 0 from by decide +kernel, show win0_6.xsize (grid0.coords t0_7) 1 = 1024 from by decide +kernel]
      omega⟩

end Cert.KernelIdeal.Point
-- ==== Proof.Routing.lean ====
module

public import Idealize.ShloMosaic.PureOps
public import Idealize.ShloMosaic.PureOps.Reduce
public import Idealize.ShloMosaic.PureOps.Ideal
public import Idealize.ShloMosaic.Lib.SortFacts
public import Idealize.ShloMosaic.Lib.SortPrefix

@[expose] public section
noncomputable section
namespace Cert.Moe
open Idealize.ShloMosaic

/-- Position `p` holds the row's greatest value, and is the first that does. -/
structure First {n : ℕ} (f : Fin n → EReal) (p : Fin n) : Prop where
  /-- No value is greater. -/
  le : ∀ q, f q ≤ f p
  /-- Every earlier value is less. -/
  lt : ∀ q, q < p → f q < f p

/-- A row of at least one value has a first greatest. -/
theorem exists_first {n : ℕ} (f : Fin (n + 1) → EReal) : ∃ p, First f p := by
  classical
  obtain ⟨a, -, ha⟩ := Finset.exists_max_image Finset.univ f ⟨0, Finset.mem_univ _⟩
  have hne : (Finset.univ.filter fun q => f q = f a).Nonempty := ⟨a, by simp⟩
  refine ⟨(Finset.univ.filter fun q => f q = f a).min' hne, ?_⟩
  have hp : f ((Finset.univ.filter fun q => f q = f a).min' hne) = f a :=
    (Finset.mem_filter.mp (Finset.min'_mem _ hne)).2
  refine ⟨fun q => (ha q (Finset.mem_univ _)).trans_eq hp.symm, fun q hq => ?_⟩
  rw [hp]
  refine lt_of_le_of_ne (ha q (Finset.mem_univ _)) fun h => ?_
  exact absurd (Finset.min'_le _ q (by simp [h])) (not_le.mpr hq)

/-- The row's maximum, folded from minus infinity, is the value at the first greatest. -/
theorem fold_max {n : ℕ} {f : Fin n → EReal} {p : Fin n} (h : First f p) :
    Finset.fold max ⊥ f Finset.univ = f p := by
  refine le_antisymm ?_ ?_
  · exact (Finset.fold_max_le _).mpr ⟨bot_le, fun q _ => h.le q⟩
  · exact Finset.le_fold_max _ |>.mpr (Or.inr ⟨p, Finset.mem_univ _, le_rfl⟩)

/-- The least position among those flagged, folded from the greatest word, unflagged ones counting as eight. -/
theorem fold_min_flags : ∀ (b : Fin 8 → Bool) (p : Fin 8), b p = true → (∀ q, q < p → b q = false) →
    Finset.fold IntOp.minsi (2147483647#32) (fun x : Fin 8 => if b x = true then BitVec.ofNat 32 x.val else 8#32) Finset.univ
      = BitVec.ofNat 32 p.val := by
  have key : ∀ b0 b1 b2 b3 b4 b5 b6 b7 : Bool, ∀ p : Fin 8, (![b0, b1, b2, b3, b4, b5, b6, b7] : Fin 8 → Bool) p = true →
      (∀ q, q < p → (![b0, b1, b2, b3, b4, b5, b6, b7] : Fin 8 → Bool) q = false) →
      Finset.fold IntOp.minsi (2147483647#32)
        (fun x : Fin 8 => if (![b0, b1, b2, b3, b4, b5, b6, b7] : Fin 8 → Bool) x = true then BitVec.ofNat 32 x.val else 8#32)
        Finset.univ = BitVec.ofNat 32 p.val := by decide +kernel
  intro b p
  have hb : b = ![b 0, b 1, b 2, b 3, b 4, b 5, b 6, b 7] := by
    funext i; fin_cases i <;> rfl
  rw [hb]
  exact key _ _ _ _ _ _ _ _ p

/-- The least position that holds the row's maximum is the first greatest. -/
theorem fold_min {f : Fin 8 → EReal} {p : Fin 8} (h : First f p) (M : EReal) (hM : M = f p) [∀ x, Decidable (f x = M)] :
    Finset.fold IntOp.minsi (2147483647#32) (fun x : Fin 8 => if f x = M then BitVec.ofNat 32 x.val else 8#32) Finset.univ
      = BitVec.ofNat 32 p.val := by
  have e := fold_min_flags (fun x => decide (f x = M)) p (by simp [hM])
    (fun q hq => by simpa [hM] using (h.lt q hq).ne)
  simpa using e

/-- Insertion sorts under two relations agree if the relations agree on a later position against an earlier one. -/
theorem stableSort_congr_later {n : ℕ} (R R' : Fin n → Fin n → Bool) (h : ∀ a b, a < b → R b a = R' b a) :
    ∀ l : List (Fin n), l.Pairwise (· < ·) → stableSort R l = stableSort R' l
  | [], _ => rfl
  | a :: l, hl => by
    obtain ⟨ha, hl'⟩ := List.pairwise_cons.mp hl
    show insertBefore R a (stableSort R l) = insertBefore R' a (stableSort R' l)
    rw [stableSort_congr_later R R' h l hl']
    exact insertBefore_congr R R' a _ fun b hb => h a b (ha b ((perm_stableSort R' l).mem_iff.mp hb))

/-- So do the permutations they sort by. -/
theorem sortedFrom_congr_later {n : ℕ} (R R' : Fin n → Fin n → Bool) (h : ∀ a b, a < b → R b a = R' b a) (k : Fin n) :
    sortedFrom R k = sortedFrom R' k := by
  have e : sortPositions n R = sortPositions n R' := stableSort_congr_later R R' h _ (List.pairwise_lt_finRange n)
  exact List.get_of_eq e _

/-- "Greater, or equal and earlier": a strict total order on the row's positions. -/
def ahead {n : ℕ} (f : Fin n → EReal) (k k' : Fin n) : Bool :=
  decide (f k' < f k) || (decide (f k = f k') && decide (k < k'))

/-- It is one. -/
theorem ahead_total {n : ℕ} (f : Fin n → EReal) : StrictTotalBefore (ahead f) :=
  StrictTotalBefore.of_key_then_position (fun a b : EReal => decide (b < a)) f (fun a => by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- The row with position `p` struck out. -/
def strike {n : ℕ} (f : Fin n → EReal) (p : Fin n) (x : Fin n) : EReal := if x = p then ⊥ else f x

/-- With every value above minus infinity, the first greatest of the struck row is another position. -/
theorem strike_ne {f : Fin 8 → EReal} {p p' : Fin 8} (hf : ∀ x, f x ≠ ⊥) (h : First (strike f p) p') : p' ≠ p := by
  rintro rfl
  obtain ⟨q, hq⟩ : ∃ q : Fin 8, q ≠ p' := by
    by_cases h0 : p' = 0
    · exact ⟨1, by rw [h0]; decide⟩
    · exact ⟨0, fun e => h0 e.symm⟩
  have := h.le q
  simp only [strike, hq, if_false, if_true] at this
  exact hf q (le_bot_iff.mp this)

/-- A stable sort, greater first, puts the first greatest first and the struck row's first greatest second. -/
theorem sort_two (f : Fin 8 → EReal) (p p' : Fin 8) (hf : ∀ x, f x ≠ ⊥) (h : First f p) (h' : First (strike f p) p')
    (R : Fin 8 → Fin 8 → Bool) (hR : ∀ a b, R a b = decide (f b < f a)) (i : Fin 2) :
    sortedFrom R (i.castLE (by decide)) = (![p, p'] : Fin 2 → Fin 8) i := by
  have hne : p' ≠ p := strike_ne hf h'
  have hs : strike f p p' = f p' := if_neg hne
  have hle' : ∀ q, q ≠ p → f q ≤ f p' := fun q hq => by
    have := h'.le q
    rwa [hs, show strike f p q = f q from if_neg hq] at this
  have hlt' : ∀ q, q ≠ p → q < p' → f q < f p' := fun q hq hlt => by
    have := h'.lt q hlt
    rwa [hs, show strike f p q = f q from if_neg hq] at this
  rw [sortedFrom_congr_later R (ahead f) (fun a b hab => by
    rw [hR]; unfold ahead; simp [not_lt.mpr hab.le])]
  have hp : ∀ q, ahead f q p = false := fun q => by
    unfold ahead
    simp only [Bool.or_eq_false_iff, Bool.and_eq_false_iff, decide_eq_false_iff_not, not_lt]
    refine ⟨h.le q, ?_⟩
    by_cases hq : q < p
    · exact Or.inl (h.lt q hq).ne
    · exact Or.inr (not_lt.mp hq)
  have hp' : ∀ q, q ≠ p → ahead f q p' = false := fun q hqp => by
    unfold ahead
    simp only [Bool.or_eq_false_iff, Bool.and_eq_false_iff, decide_eq_false_iff_not, not_lt]
    refine ⟨hle' q hqp, ?_⟩
    by_cases hq : q < p'
    · exact Or.inl (hlt' q hqp hq).ne
    · exact Or.inr (not_lt.mp hq)
  refine (ahead_total f).sortedFrom_eq_of_prefix (by decide) (![p, p'] : Fin 2 → Fin 8) ?_ ?_ ?_ i
  · intro a b hab
    fin_cases a <;> fin_cases b
    · rfl
    · exact absurd hab.symm hne
    · exact absurd hab hne
    · rfl
  · intro a b hab
    fin_cases a <;> fin_cases b
    · exact absurd hab (lt_irrefl _)
    · exact hp p'
    · exact absurd hab (by decide)
    · exact absurd hab (lt_irrefl _)
  · intro a q hq
    fin_cases a
    · exact hp q
    · exact hp' q fun e => hq 0 e.symm

/-- The word of a position equals the word of an expert exactly when they are the same. -/
theorem flag_eq (p e : Fin 8) :
    IntOp.cmpi CmpIPredicate.eq (BitVec.ofNat 32 p.val) (BitVec.ofNat 32 e.val) = if p = e then 1#1 else 0#1 := by
  revert p e; decide

/-- The softmax of two finite logits, at the greater: the sigmoid of their difference. -/
theorem softmax_fst (a b : ℝ) :
    Ideal.div (Ideal.exp ((a : EReal) - a)) (Ideal.exp ((a : EReal) - a) + Ideal.exp ((b : EReal) - a))
      = Ideal.logistic ((a : EReal) - b) := by
  have hpos : (0 : ℝ) < 1 + Real.exp (b - a) := by positivity
  rw [← EReal.coe_sub, ← EReal.coe_sub, ← EReal.coe_sub, Ideal.exp_coe, Ideal.exp_coe, Ideal.logistic_coe, sub_self, Real.exp_zero,
    ← EReal.coe_add, Ideal.div_coe hpos.ne', ← EReal.coe_mul, neg_sub, one_mul, one_div]

/-- The softmax of two finite logits, at the smaller: the sigmoid of their difference the other way. -/
theorem softmax_snd (a b : ℝ) :
    Ideal.div (Ideal.exp ((b : EReal) - a)) (Ideal.exp ((a : EReal) - a) + Ideal.exp ((b : EReal) - a))
      = Ideal.logistic ((b : EReal) - a) := by
  have hpos : (0 : ℝ) < 1 + Real.exp (b - a) := by positivity
  rw [← EReal.coe_sub, ← EReal.coe_sub, Ideal.exp_coe, Ideal.exp_coe, Ideal.logistic_coe, sub_self, Real.exp_zero,
    ← EReal.coe_add, Ideal.div_coe hpos.ne', ← EReal.coe_mul]
  congr 1
  rw [Real.exp_neg]
  have h : Real.exp (b - a) ≠ 0 := (Real.exp_pos _).ne'
  field_simp
  ring

end Cert.Moe
-- ==== Proof.KernelGate.lean ====
module

public import proofs.«01_k».proof.Proof.KernelArray
public import proofs.«01_k».proof.Proof.Routing

@[expose] public section
noncomputable section
namespace Cert.KernelIdeal.Point
open Cert.KernelIdeal Cert.KernelIdeal.Gen Cert.Moe
open Idealize.ShloMosaic Idealize.ShloMosaic.TcCoe Idealize.ShloMosaic.Tactic Idealize.SL.Sem
set_option maxRecDepth 16384

/-- The word that starts a maximum denotes minus infinity. -/
theorem neg_inf : Ideal.ofBits FTy.f32 4286578688#32 = ⊥ := by simp [Ideal.ofBits, Ideal.ieee]

/-- The grid coordinate of the point that handles expert `e` is `e`. -/
theorem expert_coord (e : Fin 8) : (grid0.coords (point e) 0).val = e.val := by
  revert e; decide

section
variable (x : Vec Ideal S256x8 .f32) (r : Fin 256) (p p' : Fin 8)
  (h : First (fun q => x (ix2 r q)) p) (h' : First (strike (fun q => x (ix2 r q)) p) p')
include h

/-- A row's maximum is the value at its first greatest. -/
theorem top_value : k0_pay3 x (ix2 r 0) = x (ix2 r p) := by
  have e : k0_pay3 x (ix2 r 0) = Finset.fold max (Ideal.ofBits FTy.f32 4286578688#32) (fun q => x (ix2 r q)) Finset.univ := by
    pointwise [k0_pay3]
  rw [e, neg_inf]
  exact fold_max h

/-- A row's first choice is the position of its first greatest. -/
theorem top_index : k0_pay4 x (ix2 r 0) = BitVec.ofNat 32 p.val := by
  have e : k0_pay4 x (ix2 r 0) = Finset.fold IntOp.minsi (2147483647#32)
      (fun q : Fin 8 => if x (ix2 r q) = k0_pay3 x (ix2 r 0) then BitVec.ofNat 32 q.val else 8#32) Finset.univ := by
    pointwise [k0_pay4]
  rw [e]
  exact fold_min h _ (top_value x r p h)

/-- The row with its first choice struck out. -/
theorem struck (j : Fin 8) : k0_pay5 x (ix2 r j) = strike (fun q => x (ix2 r q)) p j := by
  have e : k0_pay5 x (ix2 r j) = Scalar.select (IntOp.cmpi CmpIPredicate.eq (BitVec.ofNat 32 j.val) (k0_pay4 x (ix2 r 0)))
      (Ideal.ofBits FTy.f32 4286578688#32) (x (ix2 r j)) := by
    pointwise [k0_pay5]
  rw [e, top_index x r p h, neg_inf, flag_eq]
  unfold strike
  by_cases hj : j = p
  · rw [if_pos hj, if_pos hj]; rfl
  · rw [if_neg hj, if_neg hj]; rfl

include h'

/-- The struck row's maximum is the value at its first greatest. -/
theorem second_value : k0_pay6 x (ix2 r 0) = strike (fun q => x (ix2 r q)) p p' := by
  have e : k0_pay6 x (ix2 r 0) = Finset.fold max (Ideal.ofBits FTy.f32 4286578688#32) (fun q => k0_pay5 x (ix2 r q)) Finset.univ := by
    pointwise [k0_pay6]
  rw [e, neg_inf]
  simp only [struck x r p h]
  exact fold_max h'

/-- A row's second choice is the position of the struck row's first greatest. -/
theorem second_index : k0_pay7 x (ix2 r 0) = BitVec.ofNat 32 p'.val := by
  have e : k0_pay7 x (ix2 r 0) = Finset.fold IntOp.minsi (2147483647#32)
      (fun q : Fin 8 => if k0_pay5 x (ix2 r q) = k0_pay6 x (ix2 r 0) then BitVec.ofNat 32 q.val else 8#32) Finset.univ := by
    pointwise [k0_pay7]
  rw [e]
  have hf : First (fun q => k0_pay5 x (ix2 r q)) p' := by
    rw [show (fun q => k0_pay5 x (ix2 r q)) = strike (fun q => x (ix2 r q)) p from funext (struck x r p h)]
    exact h'
  exact fold_min hf _ ((second_value x r p p' h h').trans (struck x r p h p').symm)

/-- The kernel's routing weight of an expert for a row whose logits are above minus infinity: the sigmoid of the
    difference of the two chosen logits, one way for the first choice and the other way for the second. -/
theorem gateOf_eq (hf : ∀ q, x (ix2 r q) ≠ ⊥) (e : Fin 8) :
    gateOf x e r = (if p = e then Ideal.logistic (x (ix2 r p) - x (ix2 r p')) else 0)
      + (if p' = e then Ideal.logistic (x (ix2 r p') - x (ix2 r p)) else 0) := by
  have e1 : gateOf x e r = Scalar.select (IntOp.cmpi CmpIPredicate.eq (k0_pay4 x (ix2 r 0)) (BitVec.ofNat 32 (grid0.coords (point e) 0)))
        (Ideal.logistic (k0_pay3 x (ix2 r 0) - k0_pay6 x (ix2 r 0))) 0 +
      Scalar.select (IntOp.cmpi CmpIPredicate.eq (k0_pay7 x (ix2 r 0)) (BitVec.ofNat 32 (grid0.coords (point e) 0)))
        (Ideal.logistic (k0_pay6 x (ix2 r 0) - k0_pay3 x (ix2 r 0))) 0 := by
    unfold gateOf gate
    pointwise [k0_pay11, k0_pay8, k0_pay9, k0_pay10]
  have hs : strike (fun q => x (ix2 r q)) p p' = x (ix2 r p') := if_neg (strike_ne hf h')
  rw [e1, expert_coord, top_index x r p h, second_index x r p p' h h', top_value x r p h, second_value x r p p' h h', hs, flag_eq, flag_eq]
  congr 1
  · by_cases hp : p = e
    · rw [if_pos hp, if_pos hp]; rfl
    · rw [if_neg hp, if_neg hp]; rfl
  · by_cases hp : p' = e
    · rw [if_pos hp, if_pos hp]; rfl
    · rw [if_neg hp, if_neg hp]; rfl

end

end Cert.KernelIdeal.Point
-- ==== Proof.RefPoint.lean ====
module

public import proofs.«01_k».proof.Proof.Gen.ReferenceIdeal.Value
public import proofs.«01_k».proof.Proof.Spec
public import Idealize.ShloMosaic.Lib.Pipeline.ValueKit.Tiles

@[expose] public section

noncomputable section

namespace Cert.ReferenceIdeal.Point

open Cert.ReferenceIdeal Cert.ReferenceIdeal.Gen Cert.Moe
open Idealize.ShloMosaic Idealize.ShloMosaic.TcCoe Idealize.ShloMosaic.Tactic Idealize.SL.Sem

set_option maxRecDepth 16384

/-- One expert's step over the earlier total `acc`, read at an element: the total there, plus what the expert
    computes times its routing weight for the row. -/
theorem step_at
    (acc : FVec Ideal S256x1024 .f32) (fs : FVec Ideal S256 .f32) (hs : Vec Ideal S256x1024 .f32)
    (w : Vec Ideal S1x1024x4096 .i8) (s : Vec Ideal S1x8x4096 .f32) (p : Elt Ideal .f32)
    (w2 : Vec Ideal S1x2048x1024 .i8) (s2 : Vec Ideal S1x16x1024 .f32) (q : Elt Ideal .f32)
    (W13 : Vec Ideal S8x1024x4096 .i8) (W2 : Vec Ideal S8x2048x1024 .i8) (S13 : Vec Ideal S8x8x4096 .f32)
    (S2 : Vec Ideal S8x16x1024 .f32) (P13 P2 : Vec Ideal S8 .f32) (e : Fin 8)
    (hw : ∀ k j, w (ix3 0 k j) = W13 (ix3 e k j)) (hsc : ∀ b j, s (ix3 0 b j) = S13 (ix3 e b j)) (hp : p = P13 (ix1 e))
    (hw2 : ∀ k j, w2 (ix3 0 k j) = W2 (ix3 e k j)) (hs2 : ∀ b j, s2 (ix3 0 b j) = S2 (ix3 e b j)) (hq : q = P2 (ix1 e))
    (r : Fin 256) (l : Fin 1024) :
    k0_pay6 (F := Ideal) acc fs (k0_pay5 hs w s p) w2 s2 q (ix2 r l)
      = acc (ix2 r l) + expertAt hs W13 W2 S13 S2 P13 P2 e r l * fs (ix1 r) := by
  pointwise [k0_pay6, k0_pay5]
  simp only [hw, hsc, hw2, hs2, hp, hq]
  rfl

/-- The routing weight of expert 0 for a row. -/
theorem pick0_at (sc : Vec Ideal S256x2 .f32) (ix : Vec Ideal S256x2 .i32) (r : Fin 256) :
    k0_pay4 (F := Ideal) sc ix (ix1 r) = pick sc ix 0 r := by
  pointwise [k0_pay4, k0_pay2]
  rfl

/-- The same for the way expert 1's step is written. -/
theorem step1_at
    (acc : FVec Ideal S256x1024 .f32) (fs : FVec Ideal S256 .f32) (hs : Vec Ideal S256x1024 .f32)
    (w : Vec Ideal S1x1024x4096 .i8) (s : Vec Ideal S1x8x4096 .f32) (p : Elt Ideal .f32)
    (w2 : Vec Ideal S1x2048x1024 .i8) (s2 : Vec Ideal S1x16x1024 .f32) (q : Elt Ideal .f32)
    (W13 : Vec Ideal S8x1024x4096 .i8) (W2 : Vec Ideal S8x2048x1024 .i8) (S13 : Vec Ideal S8x8x4096 .f32)
    (S2 : Vec Ideal S8x16x1024 .f32) (P13 P2 : Vec Ideal S8 .f32)
    (hw : ∀ k j, w (ix3 0 k j) = W13 (ix3 1 k j)) (hsc : ∀ b j, s (ix3 0 b j) = S13 (ix3 1 b j)) (hp : p = P13 (ix1 1))
    (hw2 : ∀ k j, w2 (ix3 0 k j) = W2 (ix3 1 k j)) (hs2 : ∀ b j, s2 (ix3 0 b j) = S2 (ix3 1 b j)) (hq : q = P2 (ix1 1))
    (r : Fin 256) (l : Fin 1024) :
    k0_pay10 (F := Ideal) acc fs p (k0_pay8 w s) (k0_pay9 hs p) (FloatOps.ofBits FTy.f32 3286237184#32) (FloatOps.ofBits FTy.f32 1138753536#32) w2 s2 q (ix2 r l)
      = acc (ix2 r l) + expertAt hs W13 W2 S13 S2 P13 P2 1 r l * fs (ix1 r) :=
  step_at acc fs hs w s p w2 s2 q W13 W2 S13 S2 P13 P2 1 hw hsc hp hw2 hs2 hq r l

/-- The routing weight of expert 1 for a row. -/
theorem pick1_at (sc : Vec Ideal S256x2 .f32) (ix : Vec Ideal S256x2 .i32) (r : Fin 256) :
    k0_pay7 (F := Ideal) (k0_pay2 sc) ix (ix1 r) = pick sc ix 1 r := by
  pointwise [k0_pay4, k0_pay2, k0_pay7]
  rfl

/-- The same for the way expert 2's step is written. -/
theorem step2_at
    (acc : FVec Ideal S256x1024 .f32) (fs : FVec Ideal S256 .f32) (hs : Vec Ideal S256x1024 .f32)
    (w : Vec Ideal S1x1024x4096 .i8) (s : Vec Ideal S1x8x4096 .f32) (p : Elt Ideal .f32)
    (w2 : Vec Ideal S1x2048x1024 .i8) (s2 : Vec Ideal S1x16x1024 .f32) (q : Elt Ideal .f32)
    (W13 : Vec Ideal S8x1024x4096 .i8) (W2 : Vec Ideal S8x2048x1024 .i8) (S13 : Vec Ideal S8x8x4096 .f32)
    (S2 : Vec Ideal S8x16x1024 .f32) (P13 P2 : Vec Ideal S8 .f32)
    (hw : ∀ k j, w (ix3 0 k j) = W13 (ix3 2 k j)) (hsc : ∀ b j, s (ix3 0 b j) = S13 (ix3 2 b j)) (hp : p = P13 (ix1 2))
    (hw2 : ∀ k j, w2 (ix3 0 k j) = W2 (ix3 2 k j)) (hs2 : ∀ b j, s2 (ix3 0 b j) = S2 (ix3 2 b j)) (hq : q = P2 (ix1 2))
    (r : Fin 256) (l : Fin 1024) :
    k0_pay14 (F := Ideal) acc fs q (k0_pay12 w2 s2) (k0_pay13 hs w s p q) (ix2 r l)
      = acc (ix2 r l) + expertAt hs W13 W2 S13 S2 P13 P2 2 r l * fs (ix1 r) :=
  step_at acc fs hs w s p w2 s2 q W13 W2 S13 S2 P13 P2 2 hw hsc hp hw2 hs2 hq r l

/-- The routing weight of expert 2 for a row. -/
theorem pick2_at (sc : Vec Ideal S256x2 .f32) (ix : Vec Ideal S256x2 .i32) (r : Fin 256) :
    k0_pay11 (F := Ideal) (k0_pay2 sc) ix (ix1 r) = pick sc ix 2 r := by
  pointwise [k0_pay4, k0_pay2, k0_pay11]
  rfl

/-- The same for the way expert 3's step is written. -/
theorem step3_at
    (acc : FVec Ideal S256x1024 .f32) (fs : FVec Ideal S256 .f32) (hs : Vec Ideal S256x1024 .f32)
    (w : Vec Ideal S1x1024x4096 .i8) (s : Vec Ideal S1x8x4096 .f32) (p : Elt Ideal .f32)
    (w2 : Vec Ideal S1x2048x1024 .i8) (s2 : Vec Ideal S1x16x1024 .f32) (q : Elt Ideal .f32)
    (W13 : Vec Ideal S8x1024x4096 .i8) (W2 : Vec Ideal S8x2048x1024 .i8) (S13 : Vec Ideal S8x8x4096 .f32)
    (S2 : Vec Ideal S8x16x1024 .f32) (P13 P2 : Vec Ideal S8 .f32)
    (hw : ∀ k j, w (ix3 0 k j) = W13 (ix3 3 k j)) (hsc : ∀ b j, s (ix3 0 b j) = S13 (ix3 3 b j)) (hp : p = P13 (ix1 3))
    (hw2 : ∀ k j, w2 (ix3 0 k j) = W2 (ix3 3 k j)) (hs2 : ∀ b j, s2 (ix3 0 b j) = S2 (ix3 3 b j)) (hq : q = P2 (ix1 3))
    (r : Fin 256) (l : Fin 1024) :
    k0_pay18 (F := Ideal) acc fs (k0_pay16 hs w s p) (k0_pay17 w2) s2 q (ix2 r l)
      = acc (ix2 r l) + expertAt hs W13 W2 S13 S2 P13 P2 3 r l * fs (ix1 r) :=
  step_at acc fs hs w s p w2 s2 q W13 W2 S13 S2 P13 P2 3 hw hsc hp hw2 hs2 hq r l

/-- The routing weight of expert 3 for a row. -/
theorem pick3_at (sc : Vec Ideal S256x2 .f32) (ix : Vec Ideal S256x2 .i32) (r : Fin 256) :
    k0_pay15 (F := Ideal) (k0_pay2 sc) ix (ix1 r) = pick sc ix 3 r := by
  pointwise [k0_pay4, k0_pay2, k0_pay15]
  rfl

/-- The same for the way expert 4's step is written. -/
theorem step4_at
    (acc : FVec Ideal S256x1024 .f32) (fs : FVec Ideal S256 .f32) (hs : Vec Ideal S256x1024 .f32)
    (w : Vec Ideal S1x1024x4096 .i8) (s : Vec Ideal S1x8x4096 .f32) (p : Elt Ideal .f32)
    (w2 : Vec Ideal S1x2048x1024 .i8) (s2 : Vec Ideal S1x16x1024 .f32) (q : Elt Ideal .f32)
    (W13 : Vec Ideal S8x1024x4096 .i8) (W2 : Vec Ideal S8x2048x1024 .i8) (S13 : Vec Ideal S8x8x4096 .f32)
    (S2 : Vec Ideal S8x16x1024 .f32) (P13 P2 : Vec Ideal S8 .f32)
    (hw : ∀ k j, w (ix3 0 k j) = W13 (ix3 4 k j)) (hsc : ∀ b j, s (ix3 0 b j) = S13 (ix3 4 b j)) (hp : p = P13 (ix1 4))
    (hw2 : ∀ k j, w2 (ix3 0 k j) = W2 (ix3 4 k j)) (hs2 : ∀ b j, s2 (ix3 0 b j) = S2 (ix3 4 b j)) (hq : q = P2 (ix1 4))
    (r : Fin 256) (l : Fin 1024) :
    k0_pay23 (F := Ideal) acc fs p (k0_pay20 w s) (k0_pay21 hs p) k0_pay22 w2 s2 q (ix2 r l)
      = acc (ix2 r l) + expertAt hs W13 W2 S13 S2 P13 P2 4 r l * fs (ix1 r) :=
  step_at acc fs hs w s p w2 s2 q W13 W2 S13 S2 P13 P2 4 hw hsc hp hw2 hs2 hq r l

/-- The routing weight of expert 4 for a row. -/
theorem pick4_at (sc : Vec Ideal S256x2 .f32) (ix : Vec Ideal S256x2 .i32) (r : Fin 256) :
    k0_pay19 (F := Ideal) (k0_pay2 sc) ix (ix1 r) = pick sc ix 4 r := by
  pointwise [k0_pay4, k0_pay2, k0_pay19]
  rfl

/-- The same for the way expert 5's step is written. -/
theorem step5_at
    (acc : FVec Ideal S256x1024 .f32) (fs : FVec Ideal S256 .f32) (hs : Vec Ideal S256x1024 .f32)
    (w : Vec Ideal S1x1024x4096 .i8) (s : Vec Ideal S1x8x4096 .f32) (p : Elt Ideal .f32)
    (w2 : Vec Ideal S1x2048x1024 .i8) (s2 : Vec Ideal S1x16x1024 .f32) (q : Elt Ideal .f32)
    (W13 : Vec Ideal S8x1024x4096 .i8) (W2 : Vec Ideal S8x2048x1024 .i8) (S13 : Vec Ideal S8x8x4096 .f32)
    (S2 : Vec Ideal S8x16x1024 .f32) (P13 P2 : Vec Ideal S8 .f32)
    (hw : ∀ k j, w (ix3 0 k j) = W13 (ix3 5 k j)) (hsc : ∀ b j, s (ix3 0 b j) = S13 (ix3 5 b j)) (hp : p = P13 (ix1 5))
    (hw2 : ∀ k j, w2 (ix3 0 k j) = W2 (ix3 5 k j)) (hs2 : ∀ b j, s2 (ix3 0 b j) = S2 (ix3 5 b j)) (hq : q = P2 (ix1 5))
    (r : Fin 256) (l : Fin 1024) :
    k0_pay27 (F := Ideal) acc fs q (k0_pay26 hs (k0_pay25 w) s p w2 s2 q) (ix2 r l)
      = acc (ix2 r l) + expertAt hs W13 W2 S13 S2 P13 P2 5 r l * fs (ix1 r) :=
  step_at acc fs hs w s p w2 s2 q W13 W2 S13 S2 P13 P2 5 hw hsc hp hw2 hs2 hq r l

/-- The routing weight of expert 5 for a row. -/
theorem pick5_at (sc : Vec Ideal S256x2 .f32) (ix : Vec Ideal S256x2 .i32) (r : Fin 256) :
    k0_pay24 (F := Ideal) (k0_pay2 sc) ix (ix1 r) = pick sc ix 5 r := by
  pointwise [k0_pay4, k0_pay2, k0_pay24]
  rfl

/-- The same for the way expert 6's step is written. -/
theorem step6_at
    (acc : FVec Ideal S256x1024 .f32) (fs : FVec Ideal S256 .f32) (hs : Vec Ideal S256x1024 .f32)
    (w : Vec Ideal S1x1024x4096 .i8) (s : Vec Ideal S1x8x4096 .f32) (p : Elt Ideal .f32)
    (w2 : Vec Ideal S1x2048x1024 .i8) (s2 : Vec Ideal S1x16x1024 .f32) (q : Elt Ideal .f32)
    (W13 : Vec Ideal S8x1024x4096 .i8) (W2 : Vec Ideal S8x2048x1024 .i8) (S13 : Vec Ideal S8x8x4096 .f32)
    (S2 : Vec Ideal S8x16x1024 .f32) (P13 P2 : Vec Ideal S8 .f32)
    (hw : ∀ k j, w (ix3 0 k j) = W13 (ix3 6 k j)) (hsc : ∀ b j, s (ix3 0 b j) = S13 (ix3 6 b j)) (hp : p = P13 (ix1 6))
    (hw2 : ∀ k j, w2 (ix3 0 k j) = W2 (ix3 6 k j)) (hs2 : ∀ b j, s2 (ix3 0 b j) = S2 (ix3 6 b j)) (hq : q = P2 (ix1 6))
    (r : Fin 256) (l : Fin 1024) :
    k0_pay32 (F := Ideal) acc fs (k0_pay29 hs w s p) (k0_pay30 w2) (k0_pay31 s2) q (ix2 r l)
      = acc (ix2 r l) + expertAt hs W13 W2 S13 S2 P13 P2 6 r l * fs (ix1 r) :=
  step_at acc fs hs w s p w2 s2 q W13 W2 S13 S2 P13 P2 6 hw hsc hp hw2 hs2 hq r l

/-- The routing weight of expert 6 for a row. -/
theorem pick6_at (sc : Vec Ideal S256x2 .f32) (ix : Vec Ideal S256x2 .i32) (r : Fin 256) :
    k0_pay28 (F := Ideal) (k0_pay2 sc) ix (ix1 r) = pick sc ix 6 r := by
  pointwise [k0_pay4, k0_pay2, k0_pay28]
  rfl

/-- The same for the way expert 7's step is written. -/
theorem step7_at
    (acc : FVec Ideal S256x1024 .f32) (fs : FVec Ideal S256 .f32) (hs : Vec Ideal S256x1024 .f32)
    (w : Vec Ideal S1x1024x4096 .i8) (s : Vec Ideal S1x8x4096 .f32) (p : Elt Ideal .f32)
    (w2 : Vec Ideal S1x2048x1024 .i8) (s2 : Vec Ideal S1x16x1024 .f32) (q : Elt Ideal .f32)
    (W13 : Vec Ideal S8x1024x4096 .i8) (W2 : Vec Ideal S8x2048x1024 .i8) (S13 : Vec Ideal S8x8x4096 .f32)
    (S2 : Vec Ideal S8x16x1024 .f32) (P13 P2 : Vec Ideal S8 .f32)
    (hw : ∀ k j, w (ix3 0 k j) = W13 (ix3 7 k j)) (hsc : ∀ b j, s (ix3 0 b j) = S13 (ix3 7 b j)) (hp : p = P13 (ix1 7))
    (hw2 : ∀ k j, w2 (ix3 0 k j) = W2 (ix3 7 k j)) (hs2 : ∀ b j, s2 (ix3 0 b j) = S2 (ix3 7 b j)) (hq : q = P2 (ix1 7))
    (r : Fin 256) (l : Fin 1024) :
    k0_pay1 (F := Ideal) acc fs p (k0_pay34 w s) (k0_pay35 hs p) w2 s2 q (ix2 r l)
      = acc (ix2 r l) + expertAt hs W13 W2 S13 S2 P13 P2 7 r l * fs (ix1 r) :=
  step_at acc fs hs w s p w2 s2 q W13 W2 S13 S2 P13 P2 7 hw hsc hp hw2 hs2 hq r l

/-- The routing weight of expert 7 for a row. -/
theorem pick7_at (sc : Vec Ideal S256x2 .f32) (ix : Vec Ideal S256x2 .i32) (r : Fin 256) :
    k0_pay33 (F := Ideal) (k0_pay2 sc) ix (ix1 r) = pick sc ix 7 r := by
  pointwise [k0_pay4, k0_pay2, k0_pay33]
  rfl

/-- A block of one expert's matrix, read from the stack of eight. -/
theorem stack_ld {e : EltTy} {m n : ℕ} (X : Vec Ideal ⟨3, ![8, m, n]⟩ e) (off : Fin 3 → ℕ) (i : Fin 8)
    (h0 : off 0 = i.val) (h1 : off 1 = 0) (h2 : off 2 = 0)
    (inb : ∀ a, off a + (![1, m, n] : Fin 3 → ℕ) a ≤ (![8, m, n] : Fin 3 → ℕ) a) (k : Fin m) (j : Fin n) :
    View.ld (Val := Elt Ideal) X (Rect.unit (s := ⟨3, ![8, m, n]⟩) off ![1, m, n] inb) (ix3 0 k j) = X (ix3 i k j) := by
  refine View.ld_unit_apply_of X off _ inb _ _ ?_
  intro a
  match a with
  | ⟨0, _⟩ => show i.val = off 0 + 0; omega
  | ⟨1, _⟩ => show k.val = off 1 + k.val; omega
  | ⟨2, _⟩ => show j.val = off 2 + j.val; omega

/-- One expert's scalar, read from the table of eight. -/
theorem table_ld (X : Vec Ideal S8 .f32) (off : Fin 1 → ℕ) (i : Fin 8) (h0 : off 0 = i.val)
    (inb : ∀ a, off a + S1.size a ≤ S8.size a) (z : S1.Idx) :
    View.ld (Val := Elt Ideal) X (Rect.unit (s := S8) off S1.size inb) z = X (ix1 i) := by
  refine View.ld_unit_apply_of X off _ inb _ _ ?_
  intro a
  match a with
  | ⟨0, _⟩ =>
    have hz : (z 0).val < 1 := (z 0).isLt
    show i.val = off 0 + (z 0).val
    omega

set_option maxHeartbeats 4000000 in
/-- The reference's result block: at every element, the eight experts' contributions added in order from zero. -/
theorem out_A (c : Dev nD) (arg0 : Memref sig .tc .vmem S256x1024 .f32) (harg0 : arg0.IsWhole) (arg1 : Memref sig .tc .vmem S256x2 .f32) (harg1 : arg1.IsWhole) (arg2 : Memref sig .tc .vmem S256x2 .i32) (harg2 : arg2.IsWhole) (arg3 : Memref sig .tc .vmem S8x1024x4096 .i8) (harg3 : arg3.IsWhole) (arg4 : Memref sig .tc .vmem S8x2048x1024 .i8) (harg4 : arg4.IsWhole) (arg5 : Memref sig .tc .vmem S8x8x4096 .f32) (harg5 : arg5.IsWhole) (arg6 : Memref sig .tc .vmem S8x16x1024 .f32) (harg6 : arg6.IsWhole) (arg7 : Memref sig .tc .smem S8 .f32) (harg7 : arg7.IsWhole) (arg8 : Memref sig .tc .smem S8 .f32) (harg8 : arg8.IsWhole) (arg9 : Memref sig .tc .vmem S256x1024 .f32) (harg9 : arg9.IsWhole)
    (x0 : Vec Ideal S256x1024 .f32) (x1 : Vec Ideal S256x2 .f32) (x2 : Vec Ideal S256x2 .i32) (x3 : Vec Ideal S8x1024x4096 .i8) (x4 : Vec Ideal S8x2048x1024 .i8) (x5 : Vec Ideal S8x8x4096 .f32) (x6 : Vec Ideal S8x16x1024 .f32) (x7 : Vec Ideal S8 .f32) (x8 : Vec Ideal S8 .f32) (r : Fin 256) (l : Fin 1024) :
    out0_A_9 c arg0 harg0 arg1 harg1 arg2 harg2 arg3 harg3 arg4 harg4 arg5 harg5 arg6 harg6 arg7 harg7 arg8 harg8 arg9 harg9 x0 x1 x2 x3 x4 x5 x6 x7 x8 (ix2 r l)
      = total (fun e => expertAt x0 x3 x4 x5 x6 x7 x8 e r l * pick x1 x2 e r) 8 := by
  unfold out0_A_9
  rw [View.read_writes_junk_eq_canon]
  unfold kernelRun0_A
  dsimp only
  sl_unfold_words
  rw [View.canon_unit_zero (by decide)]
  simp only [View.readAt_eq_ld, harg0.read_unread, harg1.read_unread, harg2.read_unread, harg3.read_unread, harg4.read_unread,
    harg5.read_unread, harg6.read_unread, harg7.read_unread, harg8.read_unread]
  rw [View.ld_unit_zero (by decide) _ x0, View.ld_unit_zero (by decide) _ x1, View.ld_unit_zero (by decide) _ x2]
  rw [step7_at _ _ _ _ _ _ _ _ _ x3 x4 x5 x6 x7 x8 (stack_ld x3 ![7,0,0] 7 rfl rfl rfl _) (stack_ld x5 ![7,0,0] 7 rfl rfl rfl _) (table_ld x7 ![7] 7 rfl _ _)
    (stack_ld x4 ![7,0,0] 7 rfl rfl rfl _) (stack_ld x6 ![7,0,0] 7 rfl rfl rfl _) (table_ld x8 ![7] 7 rfl _ _), pick7_at]
  rw [step6_at _ _ _ _ _ _ _ _ _ x3 x4 x5 x6 x7 x8 (stack_ld x3 ![6,0,0] 6 rfl rfl rfl _) (stack_ld x5 ![6,0,0] 6 rfl rfl rfl _) (table_ld x7 ![6] 6 rfl _ _)
    (stack_ld x4 ![6,0,0] 6 rfl rfl rfl _) (stack_ld x6 ![6,0,0] 6 rfl rfl rfl _) (table_ld x8 ![6] 6 rfl _ _), pick6_at]
  rw [step5_at _ _ _ _ _ _ _ _ _ x3 x4 x5 x6 x7 x8 (stack_ld x3 ![5,0,0] 5 rfl rfl rfl _) (stack_ld x5 ![5,0,0] 5 rfl rfl rfl _) (table_ld x7 ![5] 5 rfl _ _)
    (stack_ld x4 ![5,0,0] 5 rfl rfl rfl _) (stack_ld x6 ![5,0,0] 5 rfl rfl rfl _) (table_ld x8 ![5] 5 rfl _ _), pick5_at]
  rw [step4_at _ _ _ _ _ _ _ _ _ x3 x4 x5 x6 x7 x8 (stack_ld x3 ![4,0,0] 4 rfl rfl rfl _) (stack_ld x5 ![4,0,0] 4 rfl rfl rfl _) (table_ld x7 ![4] 4 rfl _ _)
    (stack_ld x4 ![4,0,0] 4 rfl rfl rfl _) (stack_ld x6 ![4,0,0] 4 rfl rfl rfl _) (table_ld x8 ![4] 4 rfl _ _), pick4_at]
  rw [step3_at _ _ _ _ _ _ _ _ _ x3 x4 x5 x6 x7 x8 (stack_ld x3 ![3,0,0] 3 rfl rfl rfl _) (stack_ld x5 ![3,0,0] 3 rfl rfl rfl _) (table_ld x7 ![3] 3 rfl _ _)
    (stack_ld x4 ![3,0,0] 3 rfl rfl rfl _) (stack_ld x6 ![3,0,0] 3 rfl rfl rfl _) (table_ld x8 ![3] 3 rfl _ _), pick3_at]
  rw [step2_at _ _ _ _ _ _ _ _ _ x3 x4 x5 x6 x7 x8 (stack_ld x3 ![2,0,0] 2 rfl rfl rfl _) (stack_ld x5 ![2,0,0] 2 rfl rfl rfl _) (table_ld x7 ![2] 2 rfl _ _)
    (stack_ld x4 ![2,0,0] 2 rfl rfl rfl _) (stack_ld x6 ![2,0,0] 2 rfl rfl rfl _) (table_ld x8 ![2] 2 rfl _ _), pick2_at]
  rw [step1_at _ _ _ _ _ _ _ _ _ x3 x4 x5 x6 x7 x8 (stack_ld x3 ![1,0,0] 1 rfl rfl rfl _) (stack_ld x5 ![1,0,0] 1 rfl rfl rfl _) (table_ld x7 ![1] 1 rfl _ _)
    (stack_ld x4 ![1,0,0] 1 rfl rfl rfl _) (stack_ld x6 ![1,0,0] 1 rfl rfl rfl _) (table_ld x8 ![1] 1 rfl _ _), pick1_at]
  rw [step_at _ _ _ _ _ _ _ _ _ x3 x4 x5 x6 x7 x8 0 (stack_ld x3 ![0,0,0] 0 rfl rfl rfl _) (stack_ld x5 ![0,0,0] 0 rfl rfl rfl _) (table_ld x7 ![0] 0 rfl _ _)
    (stack_ld x4 ![0,0,0] 0 rfl rfl rfl _) (stack_ld x6 ![0,0,0] 0 rfl rfl rfl _) (table_ld x8 ![0] 0 rfl _ _), pick0_at]
  have hz : k0_pay3 (F := Ideal) (ix2 r l) = 0 := by pointwise [k0_pay3]
  rw [hz]
  rfl

end Cert.ReferenceIdeal.Point
-- ==== Proof.RefArray.lean ====
module

public import proofs.«01_k».proof.Proof.RefPoint
public import proofs.«01_k».proof.Proof.Gen.ReferenceIdeal.Value
public import Idealize.ShloMosaic.Lib.Pipeline.Value

@[expose] public section
noncomputable section
namespace Cert.ReferenceIdeal.Point
open Cert.ReferenceIdeal Cert.ReferenceIdeal.Gen Cert.Moe
open Idealize.ShloMosaic Idealize.ShloMosaic.TcCoe Idealize.ShloMosaic.Tactic Idealize.SL.Sem
open Idealize.ShloMosaic.Pipeline (Dat)
set_option maxRecDepth 16384

variable (m : (ℓ : Loc nD τ sig) → Buf (Elt Ideal) ℓ)

/-- Operand 0 of the one call is read whole. -/
theorem iblk0 (c : Dev nD) (t : Fin cfg0.N) : (iblk m c 0 t : Vec Ideal S256x1024 .f32) = V m c main_arg0 := by
  have hi : win0_0.index t 0 = 0 ∧ win0_0.index t 1 = 0 := by
    obtain rfl := fin_N0 t
    decide
  funext j
  unfold iblk
  rw [View.read_apply]
  show V m c main_arg0 _ = V m c main_arg0 j
  congr 1; funext a; apply Fin.ext
  match a with
  | ⟨0, _⟩ => show win0_0.index t 0 * 256 + 1 * (j 0).val = (j 0).val; rw [hi.1]; omega
  | ⟨1, _⟩ => show win0_0.index t 1 * 1024 + 1 * (j 1).val = (j 1).val; rw [hi.2]; omega

/-- Operand 1 of the one call is read whole. -/
theorem iblk1 (c : Dev nD) (t : Fin cfg0.N) : (iblk m c 1 t : Vec Ideal S256x2 .f32) = V m c main_v10 := by
  have hi : win0_1.index t 0 = 0 ∧ win0_1.index t 1 = 0 := by
    obtain rfl := fin_N0 t
    decide
  funext j
  unfold iblk
  rw [View.read_apply]
  show V m c main_v10 _ = V m c main_v10 j
  congr 1; funext a; apply Fin.ext
  match a with
  | ⟨0, _⟩ => show win0_1.index t 0 * 256 + 1 * (j 0).val = (j 0).val; rw [hi.1]; omega
  | ⟨1, _⟩ => show win0_1.index t 1 * 2 + 1 * (j 1).val = (j 1).val; rw [hi.2]; omega

/-- Operand 2 of the one call is read whole. -/
theorem iblk2 (c : Dev nD) (t : Fin cfg0.N) : (iblk m c 2 t : Vec Ideal S256x2 .i32) = V m c main_indices := by
  have hi : win0_2.index t 0 = 0 ∧ win0_2.index t 1 = 0 := by
    obtain rfl := fin_N0 t
    decide
  funext j
  unfold iblk
  rw [View.read_apply]
  show V m c main_indices _ = V m c main_indices j
  congr 1; funext a; apply Fin.ext
  match a with
  | ⟨0, _⟩ => show win0_2.index t 0 * 256 + 1 * (j 0).val = (j 0).val; rw [hi.1]; omega
  | ⟨1, _⟩ => show win0_2.index t 1 * 2 + 1 * (j 1).val = (j 1).val; rw [hi.2]; omega

/-- Operand 3 of the one call is read whole. -/
theorem iblk3 (c : Dev nD) (t : Fin cfg0.N) : (iblk m c 3 t : Vec Ideal S8x1024x4096 .i8) = V m c main_arg2 := by
  have hi : win0_3.index t 0 = 0 ∧ win0_3.index t 1 = 0 ∧ win0_3.index t 2 = 0 := by
    obtain rfl := fin_N0 t
    decide
  funext j
  unfold iblk
  rw [View.read_apply]
  show V m c main_arg2 _ = V m c main_arg2 j
  congr 1; funext a; apply Fin.ext
  match a with
  | ⟨0, _⟩ => show win0_3.index t 0 * 8 + 1 * (j 0).val = (j 0).val; rw [hi.1]; omega
  | ⟨1, _⟩ => show win0_3.index t 1 * 1024 + 1 * (j 1).val = (j 1).val; rw [hi.2.1]; omega
  | ⟨2, _⟩ => show win0_3.index t 2 * 4096 + 1 * (j 2).val = (j 2).val; rw [hi.2.2]; omega

/-- Operand 4 of the one call is read whole. -/
theorem iblk4 (c : Dev nD) (t : Fin cfg0.N) : (iblk m c 4 t : Vec Ideal S8x2048x1024 .i8) = V m c main_arg3 := by
  have hi : win0_4.index t 0 = 0 ∧ win0_4.index t 1 = 0 ∧ win0_4.index t 2 = 0 := by
    obtain rfl := fin_N0 t
    decide
  funext j
  unfold iblk
  rw [View.read_apply]
  show V m c main_arg3 _ = V m c main_arg3 j
  congr 1; funext a; apply Fin.ext
  match a with
  | ⟨0, _⟩ => show win0_4.index t 0 * 8 + 1 * (j 0).val = (j 0).val; rw [hi.1]; omega
  | ⟨1, _⟩ => show win0_4.index t 1 * 2048 + 1 * (j 1).val = (j 1).val; rw [hi.2.1]; omega
  | ⟨2, _⟩ => show win0_4.index t 2 * 1024 + 1 * (j 2).val = (j 2).val; rw [hi.2.2]; omega

/-- Operand 5 of the one call is read whole. -/
theorem iblk5 (c : Dev nD) (t : Fin cfg0.N) : (iblk m c 5 t : Vec Ideal S8x8x4096 .f32) = V m c main_arg4 := by
  have hi : win0_5.index t 0 = 0 ∧ win0_5.index t 1 = 0 ∧ win0_5.index t 2 = 0 := by
    obtain rfl := fin_N0 t
    decide
  funext j
  unfold iblk
  rw [View.read_apply]
  show V m c main_arg4 _ = V m c main_arg4 j
  congr 1; funext a; apply Fin.ext
  match a with
  | ⟨0, _⟩ => show win0_5.index t 0 * 8 + 1 * (j 0).val = (j 0).val; rw [hi.1]; omega
  | ⟨1, _⟩ => show win0_5.index t 1 * 8 + 1 * (j 1).val = (j 1).val; rw [hi.2.1]; omega
  | ⟨2, _⟩ => show win0_5.index t 2 * 4096 + 1 * (j 2).val = (j 2).val; rw [hi.2.2]; omega

/-- Operand 6 of the one call is read whole. -/
theorem iblk6 (c : Dev nD) (t : Fin cfg0.N) : (iblk m c 6 t : Vec Ideal S8x16x1024 .f32) = V m c main_arg5 := by
  have hi : win0_6.index t 0 = 0 ∧ win0_6.index t 1 = 0 ∧ win0_6.index t 2 = 0 := by
    obtain rfl := fin_N0 t
    decide
  funext j
  unfold iblk
  rw [View.read_apply]
  show V m c main_arg5 _ = V m c main_arg5 j
  congr 1; funext a; apply Fin.ext
  match a with
  | ⟨0, _⟩ => show win0_6.index t 0 * 8 + 1 * (j 0).val = (j 0).val; rw [hi.1]; omega
  | ⟨1, _⟩ => show win0_6.index t 1 * 16 + 1 * (j 1).val = (j 1).val; rw [hi.2.1]; omega
  | ⟨2, _⟩ => show win0_6.index t 2 * 1024 + 1 * (j 2).val = (j 2).val; rw [hi.2.2]; omega

/-- Operand 7 of the one call is read whole. -/
theorem iblk7 (c : Dev nD) (t : Fin cfg0.N) : (iblk m c 7 t : Vec Ideal S8 .f32) = V m c main_arg6 := by
  have hi : win0_7.index t 0 = 0 := by
    obtain rfl := fin_N0 t
    decide
  funext j
  unfold iblk
  rw [View.read_apply]
  show V m c main_arg6 _ = V m c main_arg6 j
  congr 1; funext a; apply Fin.ext
  match a with
  | ⟨0, _⟩ => show win0_7.index t 0 * 8 + 1 * (j 0).val = (j 0).val; rw [hi]; omega

/-- Operand 8 of the one call is read whole. -/
theorem iblk8 (c : Dev nD) (t : Fin cfg0.N) : (iblk m c 8 t : Vec Ideal S8 .f32) = V m c main_arg7 := by
  have hi : win0_8.index t 0 = 0 := by
    obtain rfl := fin_N0 t
    decide
  funext j
  unfold iblk
  rw [View.read_apply]
  show V m c main_arg7 _ = V m c main_arg7 j
  congr 1; funext a; apply Fin.ext
  match a with
  | ⟨0, _⟩ => show win0_8.index t 0 * 8 + 1 * (j 0).val = (j 0).val; rw [hi]; omega

/-- What expert `e` contributes to element `(r, l)` in the reference. -/
def term (c : Dev nD) (r : Fin 256) (l : Fin 1024) (e : Fin 8) : EReal :=
  expertAt (V m c main_arg0) (V m c main_arg2) (V m c main_arg3) (V m c main_arg4) (V m c main_arg5) (V m c main_arg6)
    (V m c main_arg7) e r l * pick (V m c main_v10) (V m c main_indices) e r

/-- The reference's result: at every element the eight experts' contributions added in order. -/
def result (c : Dev nD) : Buf (Elt Ideal) ((c : Thread nD τ).loc main_v11) :=
  fun i : S256x1024.Idx => total (term m c (i 0) (i 1)) 8

/-- The one point's block is the result. -/
theorem block_eq (c : Dev nD) (t : Fin cfg0.N) :
    out0_A_9 c (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (iblk m c 0 t) (iblk m c 1 t) (iblk m c 2 t)
      (iblk m c 3 t) (iblk m c 4 t) (iblk m c 5 t) (iblk m c 6 t) (iblk m c 7 t) (iblk m c 8 t) = result m c := by
  rw [iblk0, iblk1, iblk2, iblk3, iblk4, iblk5, iblk6, iblk7, iblk8]
  funext i
  exact (congrArg (out0_A_9 c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) _ _ _ _ _ _ _ _ _)
    (eq_ix2 (i : S256x1024.Idx))).trans (out_A ..)

/-- The one write-back puts the result there. -/
theorem flushed_eq (c : Dev nD) (t : Fin cfg0.N) :
    (dats m 0 c).flushed 9 t = ((cfg0.win 9).blk t).view.read (Elt Ideal) (result m c) := by
  rw [Value.flushed9_A, block_eq]
  obtain rfl := fin_N0 t
  have hz' : (fun a => win0_9.index t0_0 a * main_v11.ty.shape.size a) = fun _ => 0 :=
    funext fun a => by fin_cases a <;> decide
  exact (Memref.read_access_unit_zero (Elt Ideal) main_v11 hz' (fun a => by rw [congrFun hz' a]; simp) (result m c)).symm

/-- The reference's result array after the run. -/
theorem final (c : Dev nD) : (dats m 0 c).arrAt 9 cfg0.N = result m c :=
  (dats m 0 c).arrAt_eq_of_cover 9 (result m c) (fun t _ => flushed_eq m c t) fun i => ⟨t0_0, flush0_9 t0_0, by
    show i ∈ ((View.whole main_v11).slice (win0_9.rect t0_0)).set
    rw [View.set_slice_whole, Rect.mem_set_unit]
    intro a
    have hi0 : (i 0 : Nat) < 256 := (i 0).isLt
    have hi1 : (i 1 : Nat) < 1024 := (i 1).isLt
    match a with
    | ⟨0, _⟩ =>
      show win0_9.index t0_0 0 * win0_9.size 0 ≤ (i 0 : Nat) ∧ (i 0 : Nat) < win0_9.index t0_0 0 * win0_9.size 0 + win0_9.xsize (grid0.coords t0_0) 0
      rw [show win0_9.index t0_0 0 * win0_9.size 0 = 0 from by decide +kernel, show win0_9.xsize (grid0.coords t0_0) 0 = 256 from by decide +kernel]
      omega
    | ⟨1, _⟩ =>
      show win0_9.index t0_0 1 * win0_9.size 1 ≤ (i 1 : Nat) ∧ (i 1 : Nat) < win0_9.index t0_0 1 * win0_9.size 1 + win0_9.xsize (grid0.coords t0_0) 1
      rw [show win0_9.index t0_0 1 * win0_9.size 1 = 0 from by decide +kernel, show win0_9.xsize (grid0.coords t0_0) 1 = 1024 from by decide +kernel]
      omega⟩

end Cert.ReferenceIdeal.Point
-- ==== Proof.RefWeights.lean ====
module

public import proofs.«01_k».proof.Proof.RefArray
public import proofs.«01_k».proof.Proof.Routing
public import Idealize.ShloMosaic.Lib.StableHlo.Run

@[expose] public section
noncomputable section
namespace Cert.ReferenceIdeal.Point
open Cert.ReferenceIdeal Cert.ReferenceIdeal.Gen Cert.Moe
open Idealize.ShloMosaic Idealize.ShloMosaic.TcCoe Idealize.ShloMosaic.Tactic Idealize.SL.Sem
set_option maxRecDepth 16384

/-- The exponentials of a row's chosen logits less their maximum. -/
def exps (v : Vec Ideal S256x2 .f32) : Vec Ideal S256x2 .f32 :=
  Host.exp (F := Ideal) (φ := .f32) (subf (F := Ideal) (φ := .f32) v (broadcastInDim S256x2 ![0, 1] bcast_S256x1_S256x2_0_1 (broadcastInDim S256x1 ![0] bcast_S256_S256x1_0
    (maximumf (F := Ideal) (φ := .f32) (broadcastInDim S256 ![] bcast_S_S256 (constant (F := Ideal) S_ .f32 0xFF800000#32))
      (Host.reduce (FloatOps.maximumf (F := Ideal) (φ := .f32)) v (constant (F := Ideal) S_ .f32 0xFF800000#32) reducesTo_S256x2_S256_d1 h_S_)))))

/-- The softmax of a row's chosen logits. -/
def scores (v : Vec Ideal S256x2 .f32) : Vec Ideal S256x2 .f32 :=
  Host.divf (F := Ideal) (φ := .f32) (exps v) (broadcastInDim S256x2 ![0, 1] bcast_S256x1_S256x2_0_1 (broadcastInDim S256x1 ![0] bcast_S256_S256x1_0
    (Host.reduceAdd (F := Ideal) (φ := .f32) (exps v) (constant (F := Ideal) S_ .f32 0x00000000#32) reducesTo_S256x2_S256_d1 h_S_)))

/-- A row's two greatest logits. -/
def vals (x : Vec Ideal S256x8 .f32) : Vec Ideal S256x2 .f32 :=
  (Host.topK S256x2 1 (FloatOps.cmpfTotal (F := Ideal) (φ := .f32) .gt) x sliceFits_S256x8_S256x2).1

/-- Their positions in the row. -/
def idxs (x : Vec Ideal S256x8 .f32) : Vec Ideal S256x2 .i32 :=
  (Host.topK S256x2 1 (FloatOps.cmpfTotal (F := Ideal) (φ := .f32) .gt) x sliceFits_S256x8_S256x2).2

section
variable (m : (ℓ : Loc nD τ sig) → Buf (Elt Ideal) ℓ)

/-- The positions the experts' call reads are those of the logits' two greatest. -/
theorem V_indices (c : Dev nD) : V m c main_indices = idxs (V m c main_arg1) := by
  rw [V_main_arg1]
  dsimp only [V, hostOps0]
  after_results
  rfl

/-- The scales the experts' call reads are the softmax of the logits' two greatest. -/
theorem V_scores (c : Dev nD) : V m c main_v10 = scores (vals (V m c main_arg1)) := by
  rw [V_main_arg1]
  dsimp only [V, hostOps0]
  after_results
  rfl

end

/-- Moving along a row of the logits changes the column. -/
theorem along_row (r : Fin 256) (k j : Fin 8) : Shape.Idx.along (s := S256x8) (ix2 r j) 1 k = ix2 r k := by
  funext a
  match a with
  | ⟨0, _⟩ => rfl
  | ⟨1, _⟩ => rfl

section
variable (x : Vec Ideal S256x8 .f32) (r : Fin 256) (p p' : Fin 8)
  (h : First (fun q => x (ix2 r q)) p) (h' : First (strike (fun q => x (ix2 r q)) p) p') (hf : ∀ q, x (ix2 r q) ≠ ⊥)

include h h' hf

/-- The position the sort of a row takes its first and its second entry from. -/
theorem source (a : Fin 2) : sortedFrom (fun k k' : Fin 8 =>
      FloatOps.cmpfTotal (F := Ideal) (φ := .f32) CmpDirection.gt (x (Shape.Idx.along (s := S256x8) (ix2 r (a.castLE (by decide))) 1 k))
        (x (Shape.Idx.along (s := S256x8) (ix2 r (a.castLE (by decide))) 1 k')) == 1#1) (a.castLE (by decide))
      = (![p, p'] : Fin 2 → Fin 8) a := by
  refine sort_two (fun q => x (ix2 r q)) p p' hf h h' _ (fun k k' => ?_) a
  rw [along_row, along_row]
  show (BitVec.ofBool (decide (x (ix2 r k') < x (ix2 r k))) == 1#1) = _
  by_cases hk : x (ix2 r k') < x (ix2 r k)
  · simp [hk]
  · simp [hk]

/-- The two greatest logits of a row are the first greatest's and the struck row's first greatest's. -/
theorem vals_at (a : Fin 2) : vals x (ix2 r a) = x (ix2 r ((![p, p'] : Fin 2 → Fin 8) a)) := by
  have e : vals x (ix2 r a) = x (Shape.Idx.along (s := S256x8) (ix2 r (a.castLE (by decide))) 1 (sortedFrom (fun k k' : Fin 8 =>
      FloatOps.cmpfTotal (F := Ideal) (φ := .f32) CmpDirection.gt (x (Shape.Idx.along (s := S256x8) (ix2 r (a.castLE (by decide))) 1 k))
        (x (Shape.Idx.along (s := S256x8) (ix2 r (a.castLE (by decide))) 1 k')) == 1#1) (a.castLE (by decide)))) := by
    unfold vals Host.topK Host.sort2
    pointwise []
    rfl
  exact e.trans ((congrArg (fun k : Fin 8 => x (Shape.Idx.along (s := S256x8) (ix2 r (a.castLE (by decide))) 1 k))
    (source x r p p' h h' hf a)).trans (congrArg x (along_row r _ _)))

/-- Their positions, as words. -/
theorem idxs_at (a : Fin 2) : idxs x (ix2 r a) = BitVec.ofNat 32 ((![p, p'] : Fin 2 → Fin 8) a).val := by
  have e : idxs x (ix2 r a) = BitVec.ofNat 32 (sortedFrom (fun k k' : Fin 8 =>
      FloatOps.cmpfTotal (F := Ideal) (φ := .f32) CmpDirection.gt (x (Shape.Idx.along (s := S256x8) (ix2 r (a.castLE (by decide))) 1 k))
        (x (Shape.Idx.along (s := S256x8) (ix2 r (a.castLE (by decide))) 1 k')) == 1#1) (a.castLE (by decide))).val := by
    unfold idxs Host.topK Host.sort2
    pointwise []
    rfl
  exact e.trans (congrArg (fun k : Fin 8 => BitVec.ofNat 32 k.val) (source x r p p' h h' hf a))

/-- The softmax of a row's two greatest logits, the greater first. -/
theorem scores_at (ht : ∀ q, x (ix2 r q) ≠ ⊤) :
    scores (vals x) (ix2 r 0) = Ideal.logistic (x (ix2 r p) - x (ix2 r p'))
      ∧ scores (vals x) (ix2 r 1) = Ideal.logistic (x (ix2 r p') - x (ix2 r p)) := by
  have e : ∀ a : Fin 2, scores (vals x) (ix2 r a) = Ideal.div
      (Ideal.exp (vals x (ix2 r a) - max (Ideal.ofBits FTy.f32 4286578688#32)
        (Finset.fold max (Ideal.ofBits FTy.f32 4286578688#32) (fun y : Fin 2 => vals x (ix2 r y)) Finset.univ)))
      (∑ y : Fin 2, Ideal.exp (vals x (ix2 r y) - max (Ideal.ofBits FTy.f32 4286578688#32)
        (Finset.fold max (Ideal.ofBits FTy.f32 4286578688#32) (fun y : Fin 2 => vals x (ix2 r y)) Finset.univ))) := fun a => by
    pointwise [scores, exps]
  have hbot : Ideal.ofBits FTy.f32 4286578688#32 = ⊥ := by simp [Ideal.ofBits, Ideal.ieee]
  have h0 : vals x (ix2 r 0) = x (ix2 r p) := vals_at x r p p' h h' hf 0
  have h1 : vals x (ix2 r 1) = x (ix2 r p') := vals_at x r p p' h h' hf 1
  have hm : max (Ideal.ofBits FTy.f32 4286578688#32)
      (Finset.fold max (Ideal.ofBits FTy.f32 4286578688#32) (fun y : Fin 2 => vals x (ix2 r y)) Finset.univ) = x (ix2 r p) := by
    have hF : First (fun y : Fin 2 => vals x (ix2 r y)) 0 := ⟨fun y => by
      fin_cases y
      · exact le_rfl
      · show vals x (ix2 r 1) ≤ vals x (ix2 r 0)
        rw [h0, h1]; exact h.le p', fun y hy => absurd hy (Fin.not_lt_zero y)⟩
    rw [hbot, fold_max hF, h0]
    exact max_eq_right bot_le
  obtain ⟨a, ha⟩ : ∃ a : ℝ, x (ix2 r p) = (a : EReal) := ⟨_, (EReal.coe_toReal (ht p) (hf p)).symm⟩
  obtain ⟨b, hb⟩ : ∃ b : ℝ, x (ix2 r p') = (b : EReal) := ⟨_, (EReal.coe_toReal (ht p') (hf p')).symm⟩
  rw [e, e, hm, Fin.sum_univ_two, h0, h1, ha, hb]
  exact ⟨softmax_fst a b, softmax_snd a b⟩

/-- The reference's routing weight of an expert for a row of finite logits: the sigmoid of the difference of the two
    chosen logits, one way for the first choice and the other way for the second. -/
theorem pick_eq (ht : ∀ q, x (ix2 r q) ≠ ⊤) (e : Fin 8) :
    pick (scores (vals x)) (idxs x) e r = (if p = e then Ideal.logistic (x (ix2 r p) - x (ix2 r p')) else 0)
      + (if p' = e then Ideal.logistic (x (ix2 r p') - x (ix2 r p)) else 0) := by
  have hfl : ∀ q : Fin 8, FloatOps.sitofp (F := Ideal) .f32 (BitVec.setWidth 32 (IntOp.cmpi CmpIPredicate.eq (BitVec.ofNat 32 q.val)
      (BitVec.ofNat 32 e.val))) = if q = e then (1 : EReal) else 0 := fun q => by
    rw [flag_eq]
    by_cases hq : q = e
    · rw [if_pos hq, if_pos hq]
      show (((BitVec.setWidth 32 1#1).toInt : ℝ) : EReal) = 1
      rw [show (BitVec.setWidth 32 1#1).toInt = 1 from by decide]
      simp
    · rw [if_neg hq, if_neg hq]
      show (((BitVec.setWidth 32 0#1).toInt : ℝ) : EReal) = 0
      rw [show (BitVec.setWidth 32 0#1).toInt = 0 from by decide]
      simp
  unfold pick
  rw [Fin.sum_univ_two, (scores_at x r p p' h h' hf ht).1, (scores_at x r p p' h h' hf ht).2, idxs_at x r p p' h h' hf 0,
    idxs_at x r p p' h h' hf 1]
  show _ * FloatOps.sitofp (F := Ideal) .f32 (BitVec.setWidth 32 (IntOp.cmpi CmpIPredicate.eq (BitVec.ofNat 32 p.val) (BitVec.ofNat 32 e.val)))
    + _ * FloatOps.sitofp (F := Ideal) .f32 (BitVec.setWidth 32 (IntOp.cmpi CmpIPredicate.eq (BitVec.ofNat 32 p'.val) (BitVec.ofNat 32 e.val))) = _
  rw [hfl, hfl, mul_ite, mul_ite, mul_one, mul_one, mul_zero, mul_zero]

end

end Cert.ReferenceIdeal.Point
-- ==== Proof.Equal.lean ====
module

public import proofs.«01_k».proof.Defs
public import proofs.«01_k».proof.Proof.Gen.Pre_finite_logits
public import proofs.«01_k».proof.Proof.KernelGate
public import proofs.«01_k».proof.Proof.RefWeights

@[expose] public section
noncomputable section
namespace Cert.Moe
open Idealize.ShloMosaic Idealize.ShloMosaic.TcCoe Idealize.SL.Sem
set_option maxRecDepth 16384

/-- The precondition, at an element: no logit is infinite. -/
theorem finite_at (a0 : FVec Ideal ⟨2, ![256, 1024]⟩ .f32) (x : FVec Ideal ⟨2, ![256, 8]⟩ .f32) (a2 : IVec ⟨3, ![8, 1024, 4096]⟩ 8)
    (a3 : IVec ⟨3, ![8, 2048, 1024]⟩ 8) (a4 : FVec Ideal ⟨3, ![8, 8, 4096]⟩ .f32) (a5 : FVec Ideal ⟨3, ![8, 16, 1024]⟩ .f32)
    (a6 a7 : FVec Ideal ⟨1, ![8]⟩ .f32)
    (h : Cert.Pre_finite_logits.fn (F := Ideal) a0 x a2 a3 a4 a5 a6 a7 = fun _ => 1#1)
    (r : Fin 256) (q : Fin 8) : x (ix2 r q) ≠ ⊥ ∧ x (ix2 r q) ≠ ⊤ := by
  have e : Cert.Pre_finite_logits.fn (F := Ideal) a0 x a2 a3 a4 a5 a6 a7 (ix2 r q)
      = BitVec.ofBool (decide (FloatOps.absf (F := Ideal) (φ := .f32) (x (ix2 r q)) < Ideal.ofBits FTy.f32 2139095040#32)) := by
    pointwise [Cert.Pre_finite_logits.fn]
  rw [h] at e
  have ht : Ideal.ofBits FTy.f32 2139095040#32 = ⊤ := by simp [Ideal.ofBits, Ideal.ieee]
  rw [ht] at e
  have hlt : max (x (ix2 r q) : EReal) (-(x (ix2 r q) : EReal)) < ⊤ := by
    by_contra hn
    have e' : (1#1 : BitVec 1) = BitVec.ofBool (decide (max (x (ix2 r q) : EReal) (-(x (ix2 r q) : EReal)) < ⊤)) := e
    rw [decide_eq_false hn] at e'
    exact absurd e' (by decide)
  constructor
  · intro hx
    rw [hx] at hlt
    exact absurd hlt (by simp)
  · intro hx
    rw [hx] at hlt
    exact absurd hlt (by simp)

/-- For a row of finite logits the kernel and the reference weight every expert alike. -/
theorem weights_eq (x : Vec Ideal ⟨2, ![256, 8]⟩ .f32) (r : Fin 256) (hx : ∀ q, x (ix2 r q) ≠ ⊥ ∧ x (ix2 r q) ≠ ⊤) (e : Fin 8) :
    Cert.KernelIdeal.Point.gateOf x e r
      = pick (Cert.ReferenceIdeal.Point.scores (Cert.ReferenceIdeal.Point.vals x)) (Cert.ReferenceIdeal.Point.idxs x) e r := by
  obtain ⟨p, h⟩ := exists_first fun q : Fin 8 => x (ix2 r q)
  obtain ⟨p', h'⟩ := exists_first (strike (fun q : Fin 8 => x (ix2 r q)) p)
  rw [Cert.KernelIdeal.Point.gateOf_eq x r p p' h h' (fun q => (hx q).1) e,
    Cert.ReferenceIdeal.Point.pick_eq x r p p' h h' (fun q => (hx q).1) (fun q => (hx q).2) e]

/-- From equal arguments with finite logits the two programs' results are equal at every element. -/
theorem results_eq (c : Dev Cert.KernelIdeal.nD)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hx : ∀ r q, (Cert.KernelIdeal.Gen.V m c Cert.KernelIdeal.main_arg1 : Vec Ideal ⟨2, ![256, 8]⟩ .f32) (ix2 r q) ≠ (⊥ : EReal)
      ∧ (Cert.KernelIdeal.Gen.V m c Cert.KernelIdeal.main_arg1 : Vec Ideal ⟨2, ![256, 8]⟩ .f32) (ix2 r q) ≠ (⊤ : EReal)) :
    Cert.ReferenceIdeal.Point.result m' c = Cert.KernelIdeal.Point.result m c := by
  have ht : ∀ r l e, Cert.ReferenceIdeal.Point.term m' c r l e = Cert.KernelIdeal.Point.term m c r l e := fun r l e => by
    unfold Cert.ReferenceIdeal.Point.term Cert.KernelIdeal.Point.term
    rw [weights_eq _ r (hx r) e, Cert.ReferenceIdeal.Point.V_scores, Cert.ReferenceIdeal.Point.V_indices,
      Cert.ReferenceIdeal.Gen.V_main_arg0, Cert.ReferenceIdeal.Gen.V_main_arg1, Cert.ReferenceIdeal.Gen.V_main_arg2,
      Cert.ReferenceIdeal.Gen.V_main_arg3, Cert.ReferenceIdeal.Gen.V_main_arg4, Cert.ReferenceIdeal.Gen.V_main_arg5,
      Cert.ReferenceIdeal.Gen.V_main_arg6, Cert.ReferenceIdeal.Gen.V_main_arg7, h0, h1, h2, h3, h4, h5, h6, h7]
  funext i
  show total (Cert.ReferenceIdeal.Point.term m' c _ _) 8 = total (Cert.KernelIdeal.Point.term m c _ _) 8
  exact congrArg (fun f => total f 8) (funext fun e => ht _ _ e)

end Cert.Moe
-- ==== Proof.lean ====
/- The claims about the mixture-of-experts kernel: the frames come from the generated modules, the equality of the results
   from `Proof/Equal.lean`, where the kernel's array and the reference's array meet. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_logits
public import proofs.«01_k».proof.Proof.Gen.KernelIdeal.Value
public import proofs.«01_k».proof.Proof.Gen.ReferenceIdeal.Value
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel and the reference, over exact numbers, from equal arguments with finite logits, end with equal results. -/
theorem equal_results : Cert.algebraic_KernelIdeal_ReferenceIdeal_pre_finite_logits
    (hKernelIdeal := Cert.KernelIdeal.Gen.facts) (hReferenceIdeal := Cert.ReferenceIdeal.Gen.facts)
    (hPre_finite_logits := Cert.Pre_finite_logits.Gen.facts) := by
  intro m g m' g' hpre hargs
  refine ⟨fun c => Cert.KernelIdeal.Point.result m c, ?_, ?_⟩
  · refine (θ_run _ _ _).mono (fun r h c => ?_) (Cert.KernelIdeal.Value.run_blocks (F := Ideal) m g)
    exact ⟨(h c).1.trans (Cert.KernelIdeal.Point.final m c), (h c).2⟩
  · refine (θ_run _ _ _).mono (fun r h c => ?_) (Cert.ReferenceIdeal.Value.run_blocks (F := Ideal) m' g')
    obtain ⟨h0, h1, h2, h3, h4, h5, h6, h7⟩ := hargs c
    refine ⟨((h c).1.trans (Cert.ReferenceIdeal.Point.final m' c)).trans ?_, (h c).2⟩
    exact Cert.Moe.results_eq c m m' h0 h1 h2 h3 h4 h5 h6 h7
      fun r q => Cert.Moe.finite_at _ _ _ _ _ _ _ _ (hpre c) r q

/-- Every claim: the three programs run, leave their arguments unchanged and every semaphore at zero, and the kernel and
    the reference end with equal results. -/
theorem claim : Cert.Claim := ⟨Cert.Kernel.Gen.facts, Cert.KernelIdeal.Gen.facts, Cert.ReferenceIdeal.Gen.facts, Cert.Pre_finite_logits.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  trivial,
  equal_results⟩

end Cert.Proof

end
